-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite [hPre_routed_and_finite : Cert.Pre_routed_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite [hPre_routed_and_finite : Cert.Pre_routed_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed_and_finite [hKernelIdeal : Cert.KernelIdeal.Facts] [hPre_routed_and_finite : Cert.Pre_routed_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed_and_finite [hReferenceIdeal : Cert.ReferenceIdeal.Facts] [hPre_routed_and_finite : Cert.Pre_routed_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_routed_and_finite [hKernelIdeal : Cert.KernelIdeal.Facts] [hReferenceIdeal : Cert.ReferenceIdeal.Facts] [hPre_routed_and_finite : Cert.Pre_routed_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routed_and_finite : Cert.Pre_routed_and_finite.Facts),
    quiescent_Kernel (hKernel := hKernel)
    ∧ quiescent_KernelIdeal (hKernelIdeal := hKernelIdeal)
    ∧ quiescent_KernelIdeal_pre_routed_and_finite (hKernelIdeal := hKernelIdeal) (hPre_routed_and_finite := hPre_routed_and_finite)
    ∧ quiescent_ReferenceIdeal (hReferenceIdeal := hReferenceIdeal)
    ∧ quiescent_ReferenceIdeal_pre_routed_and_finite (hReferenceIdeal := hReferenceIdeal) (hPre_routed_and_finite := hPre_routed_and_finite)
    ∧ preserves_Kernel_KernelIdeal
    ∧ algebraic_KernelIdeal_ReferenceIdeal_pre_routed_and_finite (hKernelIdeal := hKernelIdeal) (hReferenceIdeal := hReferenceIdeal) (hPre_routed_and_finite := hPre_routed_and_finite)
-- ==== Pre_routed_and_finite.lean ====
abbrev S4096x768 : Shape := ⟨2, ![4096, 768]⟩
abbrev S4096 : Shape := ⟨1, ![4096]⟩
abbrev S8x768x768 : Shape := ⟨3, ![8, 768, 768]⟩
abbrev S8x768 : Shape := ⟨2, ![8, 768]⟩
abbrev S1x768x768 : Shape := ⟨3, ![1, 768, 768]⟩
abbrev S1 : Shape := ⟨1, ![1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S8x768x768 : S_.BroadcastsInDim S8x768x768 (![] : Fin 0 → Fin S8x768x768.rank)
  reducesTo_S8x768x768_S_d0_1_2 : S8x768x768.ReducesTo [0, 1, 2] S_
  bcast_S_S8x768 : S_.BroadcastsInDim S8x768 (![] : Fin 0 → Fin S8x768.rank)
  reducesTo_S8x768_S_d0_1 : S8x768.ReducesTo [0, 1] S_
  bcast_S_S1x768x768 : S_.BroadcastsInDim S1x768x768 (![] : Fin 0 → Fin S1x768x768.rank)
  reducesTo_S1x768x768_S_d0_1_2 : S1x768x768.ReducesTo [0, 1, 2] S_

variable [Facts]

def fn_part1 {F : FTy → Type} [FloatOps F] (main_arg4 : FVec F S8x768 .f32) (main_arg5 : FVec F S1x768x768 .f32) (main_v5 : IVec S_ 1) (main_v9 : IVec S_ 1) (main_v13 : IVec S_ 1) (main_v14 : FVec F S8x768x768 .f32) (main_v15 : FVec F S8x768x768 .f32) : IVec S_ 1 :=
  let main_v16 : IVec S8x768x768 1 := cmpf .olt main_v14 main_v15
  let main_c_6 : IVec S_ 1 := constantI S_ 1 1#1
  let main_v17 : IVec S_ 1 := (fun x v => Host.reduce IntOp.andi x v reducesTo_S8x768x768_S_d0_1_2 h_S_) main_v16 main_c_6
  let main_v18 : FVec F S8x768 .f32 := Host.absf main_arg4
  let main_cst_7 : FVec F S_ .f32 := constant S_ .f32 0x7F800000#32
  let main_v19 : FVec F S8x768 .f32 := broadcastInDim S8x768 ![] bcast_S_S8x768 main_cst_7
  let main_v20 : IVec S8x768 1 := cmpf .olt main_v18 main_v19
  let main_c_8 : IVec S_ 1 := constantI S_ 1 1#1
  let main_v21 : IVec S_ 1 := (fun x v => Host.reduce IntOp.andi x v reducesTo_S8x768_S_d0_1 h_S_) main_v20 main_c_8
  let main_v22 : FVec F S1x768x768 .f32 := Host.absf main_arg5
  let main_cst_9 : FVec F S_ .f32 := constant S_ .f32 0x7F800000#32
  let main_v23 : FVec F S1x768x768 .f32 := broadcastInDim S1x768x768 ![] bcast_S_S1x768x768 main_cst_9
  let main_v24 : IVec S1x768x768 1 := cmpf .olt main_v22 main_v23
  let main_c_10 : IVec S_ 1 := constantI S_ 1 1#1
  let main_v25 : IVec S_ 1 := (fun x v => Host.reduce IntOp.andi x v reducesTo_S1x768x768_S_d0_1_2 h_S_) main_v24 main_c_10
  let main_v26 : IVec S_ 1 := andi main_v5 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x768 .f32) (main_arg1 : FVec F S4096x768 .f32) (main_arg2 : IVec S4096 32) (main_arg3 : FVec F S8x768x768 .f32) (main_arg4 : FVec F S8x768 .f32) (main_arg5 : FVec F S1x768x768 .f32) (main_arg6 : FVec F S1 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 8#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S4096x768 .f32 := Host.absf main_arg0
  let main_cst : FVec F S_ .f32 := constant S_ .f32 0x7F800000#32
  let main_v7 : FVec F S4096x768 .f32 := broadcastInDim S4096x768 ![] bcast_S_S4096x768 main_cst
  let main_v8 : IVec S4096x768 1 := cmpf .olt main_v6 main_v7
  let main_c_2 : IVec S_ 1 := constantI S_ 1 1#1
  let main_v9 : IVec S_ 1 := (fun x v => Host.reduce IntOp.andi x v reducesTo_S4096x768_S_d0_1 h_S_) main_v8 main_c_2
  let main_v10 : FVec F S4096x768 .f32 := Host.absf main_arg1
  let main_cst_3 : FVec F S_ .f32 := constant S_ .f32 0x7F800000#32
  let main_v11 : FVec F S4096x768 .f32 := broadcastInDim S4096x768 ![] bcast_S_S4096x768 main_cst_3
  let main_v12 : IVec S4096x768 1 := cmpf .olt main_v10 main_v11
  let main_c_4 : IVec S_ 1 := constantI S_ 1 1#1
  let main_v13 : IVec S_ 1 := (fun x v => Host.reduce IntOp.andi x v reducesTo_S4096x768_S_d0_1 h_S_) main_v12 main_c_4
  let main_v14 : FVec F S8x768x768 .f32 := Host.absf main_arg3
  let main_cst_5 : FVec F S_ .f32 := constant S_ .f32 0x7F800000#32
  let main_v15 : FVec F S8x768x768 .f32 := broadcastInDim S8x768x768 ![] bcast_S_S8x768x768 main_cst_5
  fn_part1 (F := F) main_arg4 main_arg5 main_v5 main_v9 main_v13 main_v14 main_v15
-- ==== Kernel.lean ====
abbrev S4096x768 : Shape := ⟨2, ![4096, 768]⟩
abbrev S4096 : Shape := ⟨1, ![4096]⟩
abbrev S8x768x768 : Shape := ⟨3, ![8, 768, 768]⟩
abbrev S8x768 : Shape := ⟨2, ![8, 768]⟩
abbrev S1x768x768 : Shape := ⟨3, ![1, 768, 768]⟩
abbrev S1 : Shape := ⟨1, ![1]⟩
abbrev S_ : Shape := ⟨0, ![]⟩
abbrev S4096x1 : Shape := ⟨2, ![4096, 1]⟩
abbrev S1x1 : Shape := ⟨2, ![1, 1]⟩
abbrev S1x4096 : Shape := ⟨2, ![1, 4096]⟩
abbrev S8 : Shape := ⟨1, ![8]⟩
abbrev S8x1 : Shape := ⟨2, ![8, 1]⟩
abbrev S8x4096 : Shape := ⟨2, ![8, 4096]⟩
abbrev S9 : Shape := ⟨1, ![9]⟩
abbrev S16 : Shape := ⟨1, ![16]⟩
abbrev S16x1 : Shape := ⟨2, ![16, 1]⟩
abbrev S1x8 : Shape := ⟨2, ![1, 8]⟩
abbrev S16x8 : Shape := ⟨2, ![16, 8]⟩
abbrev S128 : Shape := ⟨1, ![128]⟩
abbrev S23 : Shape := ⟨1, ![23]⟩
abbrev S23x1 : Shape := ⟨2, ![23, 1]⟩
abbrev S22 : Shape := ⟨1, ![22]⟩
abbrev S1x23 : Shape := ⟨2, ![1, 23]⟩
abbrev S4x23 : Shape := ⟨2, ![4, 23]⟩
abbrev S8x1x768 : Shape := ⟨3, ![8, 1, 768]⟩
abbrev S256x768 : Shape := ⟨2, ![256, 768]⟩
abbrev S1x1x768 : Shape := ⟨3, ![1, 1, 768]⟩
abbrev S256x1 : Shape := ⟨2, ![256, 1]⟩
abbrev S768x768 : Shape := ⟨2, ![768, 768]⟩
abbrev S1x768 : Shape := ⟨2, ![1, 768]⟩
abbrev S256 : Shape := ⟨1, ![256]⟩

abbrev nBuf : Space → Nat
  | .hbm => 191
  | .vmem => 12
  | .smem => 2
  | _ => 0

abbrev hbmTy0_0 (i : Nat) : BufTy := match i % 128 with
  | 0 => ⟨S4096x768, .f32⟩
  | 1 => ⟨S4096x768, .f32⟩
  | 2 => ⟨S4096, .i32⟩
  | 3 => ⟨S8x768x768, .f32⟩
  | 4 => ⟨S8x768, .f32⟩
  | 5 => ⟨S1x768x768, .f32⟩
  | 6 => ⟨S1, .f32⟩
  | 7 => ⟨S1, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S1, .i32⟩
  | 20 => ⟨S_, .i32⟩
  | 21 => ⟨S4096x1, .i32⟩
  | 22 => ⟨S4096x1, .i1⟩
  | 23 => ⟨S1x1, .i32⟩
  | 24 => ⟨S4096x1, .i32⟩
  | 25 => ⟨S4096x1, .i1⟩
  | 26 => ⟨S4096x1, .i1⟩
  | 27 => ⟨S_, .i1⟩
  | 28 => ⟨S4096, .i1⟩
  | 29 => ⟨S4096x768, .f32⟩
  | 30 => ⟨S4096x768, .i1⟩
  | 31 => ⟨S_, .f32⟩
  | 32 => ⟨S4096x768, .f32⟩
  | 33 => ⟨S4096x768, .f32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S1, .i32⟩
  | 43 => ⟨S_, .i32⟩
  | 44 => ⟨S4096x1, .i32⟩
  | 45 => ⟨S4096x1, .i1⟩
  | 46 => ⟨S1x1, .i32⟩
  | 47 => ⟨S4096x1, .i32⟩
  | 48 => ⟨S4096x1, .i1⟩
  | 49 => ⟨S4096x1, .i1⟩
  | 50 => ⟨S_, .i1⟩
  | 51 => ⟨S4096, .i1⟩
  | 52 => ⟨S4096x768, .f32⟩
  | 53 => ⟨S4096x768, .i1⟩
  | 54 => ⟨S_, .f32⟩
  | 55 => ⟨S4096x768, .f32⟩
  | 56 => ⟨S4096x768, .f32⟩
  | 57 => ⟨S1x4096, .i32⟩
  | 58 => ⟨S8, .i32⟩
  | 59 => ⟨S8x1, .i32⟩
  | 60 => ⟨S8x4096, .i32⟩
  | 61 => ⟨S8x4096, .i32⟩
  | 62 => ⟨S8x4096, .i1⟩
  | 63 => ⟨S8x4096, .i32⟩
  | 64 => ⟨S_, .i32⟩
  | 65 => ⟨S8, .i32⟩
  | 66 => ⟨S_, .i32⟩
  | 67 => ⟨S1, .i32⟩
  | 68 => ⟨S_, .i32⟩
  | 69 => ⟨S_, .i32⟩
  | 70 => ⟨S8, .i32⟩
  | 71 => ⟨S16, .i32⟩
  | 72 => ⟨S16x1, .i32⟩
  | 73 => ⟨S8, .i32⟩
  | 74 => ⟨S1x8, .i32⟩
  | 75 => ⟨S8, .i32⟩
  | 76 => ⟨S1x8, .i32⟩
  | 77 => ⟨S_, .i32⟩
  | 78 => ⟨S16x1, .i32⟩
  | 79 => ⟨S16x1, .i32⟩
  | 80 => ⟨S16x8, .i32⟩
  | 81 => ⟨S16x8, .i32⟩
  | 82 => ⟨S16x8, .i32⟩
  | 83 => ⟨S8, .i32⟩
  | 84 => ⟨S1x8, .i32⟩
  | 85 => ⟨S_, .i32⟩
  | 86 => ⟨S16x1, .i32⟩
  | 87 => ⟨S16x1, .i32⟩
  | 88 => ⟨S_, .i32⟩
  | 89 => ⟨S16x1, .i32⟩
  | 90 => ⟨S16x1, .i32⟩
  | 91 => ⟨S16x8, .i32⟩
  | 92 => ⟨S16x8, .i32⟩
  | 93 => ⟨S16x8, .i32⟩
  | 94 => ⟨S16x8, .i1⟩
  | 95 => ⟨S128, .i1⟩
  | 96 => ⟨S128, .i1⟩
  | 97 => ⟨S128, .i32⟩
  | 98 => ⟨S128, .i1⟩
  | 99 => ⟨S128, .i32⟩
  | 100 => ⟨S23, .i32⟩
  | 101 => ⟨S_, .i32⟩
  | 102 => ⟨S23, .i32⟩
  | 103 => ⟨S23, .i1⟩
  | 104 => ⟨S_, .i32⟩
  | 105 => ⟨S23, .i32⟩
  | 106 => ⟨S23, .i32⟩
  | 107 => ⟨S23, .i32⟩
  | 108 => ⟨S23x1, .i32⟩
  | 109 => ⟨S23, .i1⟩
  | 110 => ⟨S23, .i32⟩
  | 111 => ⟨S_, .i32⟩
  | 112 => ⟨S23, .i32⟩
  | 113 => ⟨S23, .i1⟩
  | 114 => ⟨S_, .i32⟩
  | 115 => ⟨S_, .i32⟩
  | 116 => ⟨S23, .i32⟩
  | 117 => ⟨S23, .i32⟩
  | 118 => ⟨S23, .i32⟩
  | 119 => ⟨S_, .i32⟩
  | 120 => ⟨S23, .i32⟩
  | 121 => ⟨S23, .i1⟩
  | 122 => ⟨S23, .i32⟩
  | 123 => ⟨S23, .i32⟩
  | 124 => ⟨S_, .i32⟩
  | 125 => ⟨S23, .i32⟩
  | 126 => ⟨S23, .i1⟩
  | 127 => ⟨S23, .i1⟩
  | _ => ⟨S4096x768, .f32⟩

abbrev hbmTy0_1 (i : Nat) : BufTy := match i % 128 with
  | 0 => ⟨S_, .i32⟩
  | 1 => ⟨S23, .i32⟩
  | 2 => ⟨S23, .i32⟩
  | 3 => ⟨S23, .i32⟩
  | 4 => ⟨S_, .i32⟩
  | 5 => ⟨S_, .i32⟩
  | 6 => ⟨S23, .i32⟩
  | 7 => ⟨S23, .i32⟩
  | 8 => ⟨S_, .i32⟩
  | 9 => ⟨S23, .i32⟩
  | 10 => ⟨S23, .i1⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S23, .i32⟩
  | 18 => ⟨S23, .i32⟩
  | 19 => ⟨S_, .i32⟩
  | 20 => ⟨S23, .i32⟩
  | 21 => ⟨S23, .i1⟩
  | 22 => ⟨S_, .i32⟩
  | 23 => ⟨S23, .i32⟩
  | 24 => ⟨S23, .i1⟩
  | 25 => ⟨S_, .i32⟩
  | 26 => ⟨S_, .i1⟩
  | 27 => ⟨S23, .i1⟩
  | 28 => ⟨S23, .i1⟩
  | 29 => ⟨S23, .i1⟩
  | 30 => ⟨S23, .i32⟩
  | 31 => ⟨S23, .i32⟩
  | 32 => ⟨S23, .i32⟩
  | 33 => ⟨S_, .i32⟩
  | 34 => ⟨S_, .i32⟩
  | 35 => ⟨S23, .i32⟩
  | 36 => ⟨S23, .i32⟩
  | 37 => ⟨S22, .i32⟩
  | 38 => ⟨S23, .i32⟩
  | 39 => ⟨S23, .i1⟩
  | 40 => ⟨S_, .i32⟩
  | 41 => ⟨S23, .i32⟩
  | 42 => ⟨S23, .i1⟩
  | 43 => ⟨S23, .i1⟩
  | 44 => ⟨S23, .i32⟩
  | 45 => ⟨S1x23, .i32⟩
  | 46 => ⟨S1x23, .i32⟩
  | 47 => ⟨S1x23, .i32⟩
  | 48 => ⟨S1x23, .i32⟩
  | 49 => ⟨S8x1x768, .f32⟩
  | 50 => ⟨S1x1, .f32⟩
  | 51 => ⟨S4096x1, .f32⟩
  | 52 => ⟨S_, .f32⟩
  | 53 => ⟨S4096x1, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096x1, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x768x768, .f32⟩
  | .local _ .vmem, ⟨5, _⟩ => ⟨S1x768x768, .f32⟩
  | .local _ .vmem, ⟨6, _⟩ => ⟨S1x768x768, .f32⟩
  | .local _ .vmem, ⟨7, _⟩ => ⟨S1x1x768, .f32⟩
  | .local _ .vmem, ⟨8, _⟩ => ⟨S1x1x768, .f32⟩
  | .local _ .vmem, ⟨9, _⟩ => ⟨S1x1, .f32⟩
  | .local _ .vmem, ⟨10, _⟩ => ⟨S256x1, .f32⟩
  | .local _ .vmem, ⟨11, _⟩ => ⟨S256x1, .f32⟩
  | .local _ .smem, ⟨0, _⟩ => ⟨S4x23, .i32⟩
  | .local _ .smem, ⟨1, _⟩ => ⟨S9, .i32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_call0_v1_0 : Ref sig .tc := ⟨.hbm, 9, rfl⟩
abbrev main_v0 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_cst : Ref sig .tc := ⟨.hbm, 31, rfl⟩
abbrev main_call1_v15 : Ref sig .tc := ⟨.hbm, 32, rfl⟩
abbrev main_v1 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_call2_cst : Ref sig .tc := ⟨.hbm, 54, rfl⟩
abbrev main_call2_v15 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_c_0 : Ref sig .tc := ⟨.hbm, 64, rfl⟩
abbrev main_v10 : Ref sig .tc := ⟨.hbm, 65, rfl⟩
abbrev main_c_1 : Ref sig .tc := ⟨.hbm, 66, rfl⟩
abbrev main_v11 : Ref sig .tc := ⟨.hbm, 67, rfl⟩
abbrev main_call3_call0_c : Ref sig .tc := ⟨.hbm, 68, rfl⟩
abbrev main_call3_call0_v0 : Ref sig .tc := ⟨.hbm, 69, rfl⟩
abbrev main_v12 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_c_2 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_c_3 : Ref sig .tc := ⟨.hbm, 85, rfl⟩
abbrev main_v27 : Ref sig .tc := ⟨.hbm, 86, rfl⟩
abbrev main_v28 : Ref sig .tc := ⟨.hbm, 87, rfl⟩
abbrev main_c_4 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_call4_v0 : Ref sig .tc := ⟨.hbm, 97, rfl⟩
abbrev main_call4_v1_0 : Ref sig .tc := ⟨.hbm, 98, rfl⟩
abbrev main_v37 : Ref sig .tc := ⟨.hbm, 99, rfl⟩
abbrev main_v38 : Ref sig .tc := ⟨.hbm, 100, rfl⟩
abbrev main_c_5 : Ref sig .tc := ⟨.hbm, 101, rfl⟩
abbrev main_v39 : Ref sig .tc := ⟨.hbm, 102, rfl⟩
abbrev main_v40 : Ref sig .tc := ⟨.hbm, 103, rfl⟩
abbrev main_c_6 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_c_7 : Ref sig .tc := ⟨.hbm, 111, rfl⟩
abbrev main_v47 : Ref sig .tc := ⟨.hbm, 112, rfl⟩
abbrev main_v48 : Ref sig .tc := ⟨.hbm, 113, rfl⟩
abbrev main_c_8 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_v7 : Ref sig .tc := ⟨.hbm, 122, rfl⟩
abbrev main_call5_v8 : Ref sig .tc := ⟨.hbm, 123, rfl⟩
abbrev main_call5_c : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_0 : Ref sig .tc := ⟨.hbm, 128, rfl⟩
abbrev main_call5_v12 : Ref sig .tc := ⟨.hbm, 129, rfl⟩
abbrev main_call5_v13 : Ref sig .tc := ⟨.hbm, 130, rfl⟩
abbrev main_v49 : Ref sig .tc := ⟨.hbm, 131, rfl⟩
abbrev main_c_9 : Ref sig .tc := ⟨.hbm, 132, rfl⟩
abbrev main_call6_v0 : Ref sig .tc := ⟨.hbm, 133, rfl⟩
abbrev main_call6_v1 : Ref sig .tc := ⟨.hbm, 134, rfl⟩
abbrev main_v50 : Ref sig .tc := ⟨.hbm, 135, rfl⟩
abbrev main_c_10 : Ref sig .tc := ⟨.hbm, 136, rfl⟩
abbrev main_v51 : Ref sig .tc := ⟨.hbm, 137, rfl⟩
abbrev main_v52 : Ref sig .tc := ⟨.hbm, 138, rfl⟩
abbrev main_c_11 : Ref sig .tc := ⟨.hbm, 139, rfl⟩
abbrev main_call7_v0 : Ref sig .tc := ⟨.hbm, 140, rfl⟩
abbrev main_call7_c : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_c_1 : Ref sig .tc := ⟨.hbm, 147, rfl⟩
abbrev main_call7_v5 : Ref sig .tc := ⟨.hbm, 148, rfl⟩
abbrev main_call7_v6 : Ref sig .tc := ⟨.hbm, 149, rfl⟩
abbrev main_call7_c_2 : Ref sig .tc := ⟨.hbm, 150, rfl⟩
abbrev main_call7_v7 : Ref sig .tc := ⟨.hbm, 151, rfl⟩
abbrev main_call7_v8 : Ref sig .tc := ⟨.hbm, 152, rfl⟩
abbrev main_call7_c_3 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_v12 : Ref sig .tc := ⟨.hbm, 157, rfl⟩
abbrev main_call7_v13 : Ref sig .tc := ⟨.hbm, 158, rfl⟩
abbrev main_call7_v14 : Ref sig .tc := ⟨.hbm, 159, rfl⟩
abbrev main_v53 : Ref sig .tc := ⟨.hbm, 160, rfl⟩
abbrev main_c_12 : Ref sig .tc := ⟨.hbm, 161, rfl⟩
abbrev main_call8_v0 : Ref sig .tc := ⟨.hbm, 162, rfl⟩
abbrev main_call8_v1 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_c_13 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_cst : Ref sig .tc := ⟨.hbm, 180, rfl⟩
abbrev main_v70 : Ref sig .tc := ⟨.hbm, 181, rfl⟩
abbrev main_c_14 : Ref sig .tc := ⟨.hbm, 182, rfl⟩
abbrev main_v71 : Ref sig .tc := ⟨.hbm, 183, rfl⟩
abbrev main_v72 : Ref sig .tc := ⟨.hbm, 184, rfl⟩
abbrev main_c_15 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v66 : Ref sig .tc := ⟨.smem, 0, rfl⟩
abbrev main_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![23], ![false]⟩

abbrev pre0 : Pipeline.Prefetch sig := ⟨2, ![main_v66.idx, main_v13.idx], fun | 0 => main_v66.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v2 : Index := Scalar.indexCast arg0
  ![2, v2.toNat]
def k0_off4 (i : grid0.Coords) : Fin 2 → Nat :=
  let c3 : Index := 3#32
  let arg0 : BitVec 32 := BitVec.ofNat 32 (i 0).val
  let v4 : Index := Scalar.indexCast arg0
  ![3, v4.toNat]
def k0_off5 (v1 : BitVec 32) : Fin 1 → Nat :=
  let v39 : Index := Scalar.indexCast v1
  ![v39.toNat]
def k0_cond2 (v5 : BitVec 32) : BitVec 1 :=
  let c1_i32_0 : BitVec 32 := 1#32
  let v11 : BitVec 1 := Scalar.cmpi .eq v5 c1_i32_0
  let v12 : BitVec 32 := Scalar.extui v11
  let c0_i32_1 : BitVec 32 := 0#32
  let v13 : BitVec 1 := Scalar.cmpi .ne v12 c0_i32_1
  v13

def k0_off6 (v1 : BitVec 32) : Fin 1 → Nat :=
  let c1_i32_19 : BitVec 32 := 1#32
  let v41 : BitVec 32 := Scalar.addi v1 c1_i32_19
  let v42 : Index := Scalar.indexCast v41
  ![v42.toNat]

def k0_chk1 (v1 : BitVec 32) (v5 : BitVec 32) : Prop :=
  (∀ (k0_h2 : k0_cond2 v5 = 1#1), ∀ a, (k0_off5 v1) a + S1.size a ≤ S9.size a) ∧
  (∀ (k0_h2 : k0_cond2 v5 = 1#1), ∀ a, (k0_off6 v1) a + S1.size a ≤ S9.size a)
theorem k0_off5_inb : ∀ (v1 : BitVec 32) (v5 : BitVec 32) (k0_hw1 : k0_chk1 v1 v5), ∀ (k0_h2 : k0_cond2 v5 = 1#1), ∀ a, (k0_off5 v1) a + S1.size a ≤ S9.size a := fun v1 v5 k0_hw1 k0_h2 => k0_hw1.1 k0_h2
theorem k0_off6_inb : ∀ (v1 : BitVec 32) (v5 : BitVec 32) (k0_hw1 : k0_chk1 v1 v5), ∀ (k0_h2 : k0_cond2 v5 = 1#1), ∀ a, (k0_off6 v1) a + S1.size a ≤ S9.size a := fun v1 v5 k0_hw1 k0_h2 => k0_hw1.2 k0_h2

def k0_cond1 (v3 : BitVec 32) : BitVec 1 :=
  let c1_i32 : BitVec 32 := 1#32
  let v8 : BitVec 1 := Scalar.cmpi .eq v3 c1_i32
  let v9 : BitVec 32 := Scalar.extui v8
  let c0_i32 : BitVec 32 := 0#32
  let v10 : BitVec 1 := Scalar.cmpi .ne v9 c0_i32
  v10

def cc0_transform_0 (k0_off1_inb : ∀ i : grid0.Coords, ∀ a, (k0_off1 i) a + S1x1.size a ≤ S4x23.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S4x23) ![0, v0.toNat] S1x1.size (k0_off1_inb i)) numel1_S1x1
  let c0_i32 : BitVec 32 := 0#32
  let c0_i32_0 : BitVec 32 := 0#32
  ![v1.toNat, c0_i32.toNat]

def cc0_transform_1 (k0_off1_inb : ∀ i : grid0.Coords, ∀ a, (k0_off1 i) a + S1x1.size a ≤ S4x23.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S4x23) ![0, v0.toNat] S1x1.size (k0_off1_inb i)) numel1_S1x1
  let c0_i32 : BitVec 32 := 0#32
  let c0_i32_0 : BitVec 32 := 0#32
  ![v1.toNat, c0_i32.toNat]

def cc0_transform_2 (k0_off2_inb : ∀ i : grid0.Coords, ∀ a, (k0_off2 i) a + S1x1.size a ≤ S4x23.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S4x23) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (k0_off2_inb : ∀ i : grid0.Coords, ∀ a, (k0_off2 i) a + S1x1.size a ≤ S4x23.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S4x23) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1x1.size a ≤ S4x23.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S4x23) ![0, v0.toNat] S1x1.size (k0_off1_inb i)) numel1_S1x1
  let c0_i32 : BitVec 32 := 0#32
  let c0_i32_0 : BitVec 32 := 0#32
  ![v1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x768 : Shape := ⟨2, ![4096, 768]⟩
abbrev S4096 : Shape := ⟨1, ![4096]⟩
abbrev S8x768x768 : Shape := ⟨3, ![8, 768, 768]⟩
abbrev S8x768 : Shape := ⟨2, ![8, 768]⟩
abbrev S1x768x768 : Shape := ⟨3, ![1, 768, 768]⟩
abbrev S1 : Shape := ⟨1, ![1]⟩
abbrev S_ : Shape := ⟨0, ![]⟩
abbrev S768x768 : Shape := ⟨2, ![768, 768]⟩
abbrev S1x768 : Shape := ⟨2, ![1, 768]⟩
abbrev S768 : Shape := ⟨1, ![768]⟩
abbrev S4096x1 : Shape := ⟨2, ![4096, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S4096x768, .f32⟩
  | 1 => ⟨S4096x768, .f32⟩
  | 2 => ⟨S4096, .i32⟩
  | 3 => ⟨S8x768x768, .f32⟩
  | 4 => ⟨S8x768, .f32⟩
  | 5 => ⟨S1x768x768, .f32⟩
  | 6 => ⟨S1, .f32⟩
  | 7 => ⟨S_, .f32⟩
  | 8 => ⟨S4096x768, .f32⟩
  | 9 => ⟨S_, .i32⟩
  | 10 => ⟨S4096, .i32⟩
  | 11 => ⟨S4096, .i1⟩
  | 12 => ⟨S1x768x768, .f32⟩
  | 13 => ⟨S768x768, .f32⟩
  | 14 => ⟨S768x768, .f32⟩
  | 15 => ⟨S4096x768, .f32⟩
  | 16 => ⟨S1x768, .f32⟩
  | 17 => ⟨S768, .f32⟩
  | 18 => ⟨S1x768, .f32⟩
  | 19 => ⟨S4096x768, .f32⟩
  | 20 => ⟨S4096x768, .f32⟩
  | 21 => ⟨S4096x1, .i1⟩
  | 22 => ⟨S4096x768, .i1⟩
  | 23 => ⟨S4096x768, .f32⟩
  | 24 => ⟨S_, .i32⟩
  | 25 => ⟨S4096, .i32⟩
  | 26 => ⟨S4096, .i1⟩
  | 27 => ⟨S1x768x768, .f32⟩
  | 28 => ⟨S768x768, .f32⟩
  | 29 => ⟨S768x768, .f32⟩
  | 30 => ⟨S4096x768, .f32⟩
  | 31 => ⟨S1x768, .f32⟩
  | 32 => ⟨S768, .f32⟩
  | 33 => ⟨S1x768, .f32⟩
  | 34 => ⟨S4096x768, .f32⟩
  | 35 => ⟨S4096x768, .f32⟩
  | 36 => ⟨S4096x1, .i1⟩
  | 37 => ⟨S4096x768, .i1⟩
  | 38 => ⟨S4096x768, .f32⟩
  | 39 => ⟨S_, .i32⟩
  | 40 => ⟨S4096, .i32⟩
  | 41 => ⟨S4096, .i1⟩
  | 42 => ⟨S1x768x768, .f32⟩
  | 43 => ⟨S768x768, .f32⟩
  | 44 => ⟨S768x768, .f32⟩
  | 45 => ⟨S4096x768, .f32⟩
  | 46 => ⟨S1x768, .f32⟩
  | 47 => ⟨S768, .f32⟩
  | 48 => ⟨S1x768, .f32⟩
  | 49 => ⟨S4096x768, .f32⟩
  | 50 => ⟨S4096x768, .f32⟩
  | 51 => ⟨S4096x1, .i1⟩
  | 52 => ⟨S4096x768, .i1⟩
  | 53 => ⟨S4096x768, .f32⟩
  | 54 => ⟨S_, .i32⟩
  | 55 => ⟨S4096, .i32⟩
  | 56 => ⟨S4096, .i1⟩
  | 57 => ⟨S1x768x768, .f32⟩
  | 58 => ⟨S768x768, .f32⟩
  | 59 => ⟨S768x768, .f32⟩
  | 60 => ⟨S4096x768, .f32⟩
  | 61 => ⟨S1x768, .f32⟩
  | 62 => ⟨S768, .f32⟩
  | 63 => ⟨S1x768, .f32⟩
  | 64 => ⟨S4096x768, .f32⟩
  | 65 => ⟨S4096x768, .f32⟩
  | 66 => ⟨S4096x1, .i1⟩
  | 67 => ⟨S4096x768, .i1⟩
  | 68 => ⟨S4096x768, .f32⟩
  | 69 => ⟨S_, .i32⟩
  | 70 => ⟨S4096, .i32⟩
  | 71 => ⟨S4096, .i1⟩
  | 72 => ⟨S1x768x768, .f32⟩
  | 73 => ⟨S768x768, .f32⟩
  | 74 => ⟨S768x768, .f32⟩
  | 75 => ⟨S4096x768, .f32⟩
  | 76 => ⟨S1x768, .f32⟩
  | 77 => ⟨S768, .f32⟩
  | 78 => ⟨S1x768, .f32⟩
  | 79 => ⟨S4096x768, .f32⟩
  | 80 => ⟨S4096x768, .f32⟩
  | 81 => ⟨S4096x1, .i1⟩
  | 82 => ⟨S4096x768, .i1⟩
  | 83 => ⟨S4096x768, .f32⟩
  | 84 => ⟨S_, .i32⟩
  | 85 => ⟨S4096, .i32⟩
  | 86 => ⟨S4096, .i1⟩
  | 87 => ⟨S1x768x768, .f32⟩
  | 88 => ⟨S768x768, .f32⟩
  | 89 => ⟨S768x768, .f32⟩
  | 90 => ⟨S4096x768, .f32⟩
  | 91 => ⟨S1x768, .f32⟩
  | 92 => ⟨S768, .f32⟩
  | 93 => ⟨S1x768, .f32⟩
  | 94 => ⟨S4096x768, .f32⟩
  | 95 => ⟨S4096x768, .f32⟩
  | 96 => ⟨S4096x1, .i1⟩
  | 97 => ⟨S4096x768, .i1⟩
  | 98 => ⟨S4096x768, .f32⟩
  | 99 => ⟨S_, .i32⟩
  | 100 => ⟨S4096, .i32⟩
  | 101 => ⟨S4096, .i1⟩
  | 102 => ⟨S1x768x768, .f32⟩
  | 103 => ⟨S768x768, .f32⟩
  | 104 => ⟨S768x768, .f32⟩
  | 105 => ⟨S4096x768, .f32⟩
  | 106 => ⟨S1x768, .f32⟩
  | 107 => ⟨S768, .f32⟩
  | 108 => ⟨S1x768, .f32⟩
  | 109 => ⟨S4096x768, .f32⟩
  | 110 => ⟨S4096x768, .f32⟩
  | 111 => ⟨S4096x1, .i1⟩
  | 112 => ⟨S4096x768, .i1⟩
  | 113 => ⟨S4096x768, .f32⟩
  | 114 => ⟨S_, .i32⟩
  | 115 => ⟨S4096, .i32⟩
  | 116 => ⟨S4096, .i1⟩
  | 117 => ⟨S1x768x768, .f32⟩
  | 118 => ⟨S768x768, .f32⟩
  | 119 => ⟨S768x768, .f32⟩
  | 120 => ⟨S4096x768, .f32⟩
  | 121 => ⟨S1x768, .f32⟩
  | 122 => ⟨S768, .f32⟩
  | 123 => ⟨S1x768, .f32⟩
  | 124 => ⟨S4096x768, .f32⟩
  | 125 => ⟨S4096x768, .f32⟩
  | 126 => ⟨S4096x1, .i1⟩
  | 127 => ⟨S4096x768, .i1⟩
  | _ => ⟨S4096x768, .f32⟩

abbrev hbmTy0_1 (i : Nat) : BufTy := match i % 128 with
  | 0 => ⟨S4096x768, .f32⟩
  | 1 => ⟨S768x768, .f32⟩
  | 2 => ⟨S4096x768, .f32⟩
  | 3 => ⟨S4096x768, .f32⟩
  | 4 => ⟨S_, .f32⟩
  | 5 => ⟨S4096, .f32⟩
  | 6 => ⟨S4096x1, .f32⟩
  | 7 => ⟨S1x1, .f32⟩
  | 8 => ⟨S4096x1, .f32⟩
  | 9 => ⟨S4096x1, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_v0 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_c_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call3_v0 : Ref sig .tc := ⟨.hbm, 67, rfl⟩
abbrev main_v52 : Ref sig .tc := ⟨.hbm, 68, rfl⟩
abbrev main_c_3 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_call4_v0 : Ref sig .tc := ⟨.hbm, 82, rfl⟩
abbrev main_v65 : Ref sig .tc := ⟨.hbm, 83, rfl⟩
abbrev main_c_4 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_call5_v0 : Ref sig .tc := ⟨.hbm, 97, rfl⟩
abbrev main_v78 : Ref sig .tc := ⟨.hbm, 98, rfl⟩
abbrev main_c_5 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_call6_v0 : Ref sig .tc := ⟨.hbm, 112, rfl⟩
abbrev main_v91 : Ref sig .tc := ⟨.hbm, 113, rfl⟩
abbrev main_c_6 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_call7_v0 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_7 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩

abbrev nD : Nat := 1
abbrev τ : Topo := Topo.v7x

variable {F : FTy → Type} [FloatOps F]
-- ==== Proof.Order.lean ====
module

public import Idealize.ShloMosaic.Lib.PlanTiles.StableSort
public import Idealize.ShloMosaic.Lib.Pointwise.Index
public import Idealize.ShloMosaic.Lib.StableHlo.ReadAt

/-! The stable sort of positions by a natural-number key, and an argsort on the host read at a position. -/

@[expose] public section

namespace Cert.Grouped

open Idealize.ShloMosaic Idealize.ShloMosaic.PlanTiles

variable {n : ℕ}

/-- The position that a stable ascending sort by `key` puts at place `r`. -/
def ranked (key : Fin n → ℕ) (r : Fin n) : Fin n := sortedFrom (fun a b => decide (key a < key b)) r

/-- Along the sorted positions the pair (key, position) ascends: equal keys keep their order. -/
theorem ranked_lex (key : Fin n → ℕ) {i j : Fin n} (hij : i < j) :
    key (ranked key i) < key (ranked key j) ∨ (key (ranked key i) = key (ranked key j) ∧ ranked key i < ranked key j) := by
  obtain ⟨B, hB⟩ : ∃ B, ∀ a, key a ≤ B :=
    ⟨∑ a, key a, fun a => Finset.single_le_sum (f := key) (fun _ _ => Nat.zero_le _) (Finset.mem_univ a)⟩
  have hb : (fun a b : Fin n => decide (key a < key b)) = fun a b => decide (B - key b < B - key a) := by
    funext a b
    have := hB a; have := hB b
    exact decide_eq_decide.mpr (by omega)
  have hp := pairwise_stableSort_lex (fun a : Fin n => B - key a) (· < ·) (List.finRange n) (List.pairwise_lt_finRange n)
  rw [← hb] at hp
  have h := List.pairwise_iff_getElem.mp hp i.val j.val
    (by rw [(perm_stableSort _ _).length_eq, List.length_finRange]; exact i.isLt)
    (by rw [(perm_stableSort _ _).length_eq, List.length_finRange]; exact j.isLt) hij
  have e1 := hB (ranked key i); have e2 := hB (ranked key j)
  rcases h with h | ⟨h, h'⟩
  · left
    have h1 : B - key (ranked key j) < B - key (ranked key i) := h
    omega
  · right
    have h1 : B - key (ranked key i) = B - key (ranked key j) := h
    exact ⟨by omega, h'⟩

/-- Along the sorted order the keys never go down. -/
theorem ranked_mono (key : Fin n → ℕ) {i j : Fin n} (hij : i ≤ j) : key (ranked key i) ≤ key (ranked key j) := by
  rcases lt_or_eq_of_le hij with h | rfl
  · rcases ranked_lex key h with h | h <;> omega
  · exact le_rfl

/-- No row stands at two places of the sorted order. -/
theorem ranked_injective (key : Fin n → ℕ) : Function.Injective (ranked key) := sortedFrom_injective _
/-- Every row stands at some place of the sorted order. -/
theorem ranked_surjective (key : Fin n → ℕ) : Function.Surjective (ranked key) := sortedFrom_surjective _

/-- A host sort of a vector that carries another along, read at place `r`: the carried entry of the position ranked there. -/
theorem sort2_snd_apply {α β : Type} (cmp : α × β → α × β → BitVec 1) (x : (⟨1, ![n]⟩ : Shape).Idx → α)
    (y : (⟨1, ![n]⟩ : Shape).Idx → β) (key : Fin n → ℕ)
    (h : ∀ a b : Fin n, (cmp (x (ix1 a), y (ix1 a)) (x (ix1 b), y (ix1 b)) == 1#1) = decide (key a < key b)) (r : Fin n) :
    (Host.sort2 (⟨1, ![n]⟩ : Shape) 0 cmp x y).2 (ix1 r) = y (ix1 (ranked key r)) := by
  have e : ∀ (j : (⟨1, ![n]⟩ : Shape).Idx) (c : Fin n), j.along (⟨0, Nat.zero_lt_one⟩ : Fin (⟨1, ![n]⟩ : Shape).rank) c = ix1 c :=
    fun j c => (Shape.Idx.along_rank1 j c).trans (by funext d; match d with | ⟨0, _⟩ => rfl)
  have hb : (fun a b : Fin n => cmp (x ((ix1 r).along (⟨0, Nat.zero_lt_one⟩ : Fin (⟨1, ![n]⟩ : Shape).rank) a), y ((ix1 r).along (⟨0, Nat.zero_lt_one⟩ : Fin (⟨1, ![n]⟩ : Shape).rank) a))
      (x ((ix1 r).along (⟨0, Nat.zero_lt_one⟩ : Fin (⟨1, ![n]⟩ : Shape).rank) b), y ((ix1 r).along (⟨0, Nat.zero_lt_one⟩ : Fin (⟨1, ![n]⟩ : Shape).rank) b)) == 1#1)
      = fun a b => decide (key a < key b) := by
    funext a b; rw [e, e]; exact h a b
  unfold Host.sort2
  rw [dif_pos Nat.zero_lt_one]
  exact (congrArg (fun B : Fin n → Fin n → Bool => y ((ix1 r).along (⟨0, Nat.zero_lt_one⟩ : Fin (⟨1, ![n]⟩ : Shape).rank)
    (sortedFrom (n := n) B r))) hb).trans (congrArg y (e (ix1 r) (ranked key r)))

/-- Four rows stacked, read at row `k`. -/
theorem stack4_apply {α : Type} (x0 x1 x2 x3 : (⟨2, ![1, n]⟩ : Shape).Idx → α) (h) (w : Fin n) (k : Fin 4) :
    concatenate ⟨2, ![4, n]⟩ 0 [⟨⟨2, ![1, n]⟩, x0⟩, ⟨⟨2, ![1, n]⟩, x1⟩, ⟨⟨2, ![1, n]⟩, x2⟩, ⟨⟨2, ![1, n]⟩, x3⟩] h (ix2 k w)
      = (![x0, x1, x2, x3] k) (ix2 (0 : Fin 1) w) := by
  pointwise
  match k with
  | 0 => exact congrArg x0 (by funext b; match b with | ⟨0, _⟩ => rfl | ⟨1, _⟩ => rfl)
  | 1 => exact congrArg x1 (by funext b; match b with | ⟨0, _⟩ => rfl | ⟨1, _⟩ => rfl)
  | 2 => exact congrArg x2 (by funext b; match b with | ⟨0, _⟩ => rfl | ⟨1, _⟩ => rfl)
  | 3 => exact congrArg x3 (by funext b; match b with | ⟨0, _⟩ => rfl | ⟨1, _⟩ => rfl)

end Cert.Grouped

end
-- ==== Proof.KernelIdeal.Host.lean ====
module

public import proofs.«01_k».proof.Proof.Gen.KernelIdeal.Launch
public import proofs.«01_k».proof.Proof.Order
public import Idealize.ShloMosaic.Lib.StableHlo.ReadAt
public import Idealize.ShloMosaic.Lib.StableHlo.Predicate
public import Idealize.ShloMosaic.Lib.Pipeline.FrameSuffix

/-! What the host operations before the kernel leave in memory: the schedule table, row by row. -/

@[expose] public section

set_option maxRecDepth 16384

noncomputable section

namespace Cert.KernelIdeal.Gen

open Idealize.ShloMosaic Idealize.ShloMosaic.TcCoe Idealize.ShloMosaic.Tactic Cert.Grouped

variable {F : FTy → Type} [FloatOps F]
variable (m : (ℓ : Loc nD τ sig) → Buf (Elt F) ℓ)

/-- The host operations before the kernel, stretch by stretch, -/
abbrev opss : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16]
/-- cut in five: the argsort by expert, the gathered rows and the group sizes; -/
abbrev opsA : List (HloOp τ sig (Elt F)) := hostOps0 ++ (hostOps0_1 ++ (hostOps0_2 ++ (hostOps0_3 ++ hostOps0_4)))
/-- the group offsets and which (tile, expert) pairs meet; -/
abbrev opsB : List (HloOp τ sig (Elt F)) := hostOps0_5 ++ hostOps0_6
/-- the argsort of the pairs, the first 23 pairs and whether each meets; -/
abbrev opsC : List (HloOp τ sig (Elt F)) := hostOps0_7 ++ hostOps0_8
/-- their tiles and experts; -/
abbrev opsD : List (HloOp τ sig (Elt F)) :=
  hostOps0_9 ++ (hostOps0_10 ++ (hostOps0_11 ++ (hostOps0_12 ++ (hostOps0_13 ++ (hostOps0_14 ++ hostOps0_15)))))
/-- which items start a tile, the table of four rows, and two reshapes. -/
abbrev opsE : List (HloOp τ sig (Elt F)) := hostOps0_16

/-- The memory after each of the five parts (the last: as the kernel finds it). -/
def VA (c : Dev nD) : Valuation τ sig (Elt F) := StableHlo.after opsA (fun b => m (c, b))
/-- The buffers after the group offsets and the table of pairs. -/
def VB (c : Dev nD) : Valuation τ sig (Elt F) := StableHlo.after opsB (VA m c)
/-- The buffers after the sort of the pairs. -/
def VC (c : Dev nD) : Valuation τ sig (Elt F) := StableHlo.after opsC (VB m c)
/-- The buffers after the tiles and experts of the entries. -/
def VD (c : Dev nD) : Valuation τ sig (Elt F) := StableHlo.after opsD (VC m c)
/-- The buffers when the kernel is entered. -/
def V (c : Dev nD) : Valuation τ sig (Elt F) := StableHlo.after opsE (VD m c)

/-- The host operations before the kernel, taken stretch by stretch. -/
theorem V_eq (c : Dev nD) : StableHlo.after (opss (F := F)).flatten (fun b => m (c, b)) = V m c := by
  rw [show (opss (F := F)).flatten = opsA ++ (opsB ++ (opsC ++ (opsD ++ opsE))) from by
    simp only [opss, opsA, opsB, opsC, opsD, opsE, List.flatten_cons, List.flatten_nil, List.append_nil, List.append_assoc],
    StableHlo.after_append, StableHlo.after_append, StableHlo.after_append, StableHlo.after_append]
  rfl

/-- One of the 128 pairs meets. -/
abbrev bitAt (c : Dev nD) (p : Fin 128) : BitVec 1 := (VB m c (Proc.devRef .tc main_v35) : IVec S128 1) (ix1 p)

/-- The key of the pairs' argsort: the pairs that meet come first. -/
abbrev pairKey (c : Dev nD) (p : Fin 128) : ℕ := 1 - (bitAt m c p).toNat

/-- The pair scheduled as item `w`. -/
def code (c : Dev nD) (w : Fin 23) : Fin 128 := ranked (pairKey m c) (w.castLE (by decide))

/-- The argsort of the pairs at place `r` is the pair ranked there. -/
theorem sort_pairs (c : Dev nD) (r : Fin 128) :
    (Host.sort2 S128 0 comparator_i1_i32_d0 (noti (VB m c (Proc.devRef .tc main_v35) : IVec S128 1)) (iotaInDim S128 32 0)).2 (ix1 r)
      = BitVec.ofNat 32 (ranked (pairKey m c) r).val := by
  refine (sort2_snd_apply (n := 128) comparator_i1_i32_d0 _ _ (pairKey m c) (fun a b => ?_) r).trans rfl
  show (IntOp.cmpi .ult (~~~ (bitAt m c a)) (~~~ (bitAt m c b)) == 1#1) = decide (1 - (bitAt m c a).toNat < 1 - (bitAt m c b).toNat)
  generalize bitAt m c a = x
  generalize bitAt m c b = y
  revert x y; decide

/-- The keys the pairs are sorted by: the complement of their bits. -/
theorem vB_v36 (c : Dev nD) : (VB m c (Proc.devRef .tc main_v36) : IVec S128 1) = noti (VB m c (Proc.devRef .tc main_v35) : IVec S128 1) := by
  unfold VB
  after_reads_simp

/-- The pair scheduled as item `w`, as a word. -/
theorem vC_v38 (c : Dev nD) (w : Fin 23) : (VC m c (Proc.devRef .tc main_v38) : IVec S23 32) (ix1 w) = BitVec.ofNat 32 (code m c w).val := by
  unfold VC
  after_reads_at
  rw [vB_v36]
  exact sort_pairs m c _

/-- The shift of a negative index changes no pair's number, and a take at it is not clamped. -/
theorem wrap_pair (p : Fin 128) :
    Scalar.select (IntOp.cmpi .slt (BitVec.ofNat 32 p.val) 0#32) (IntOp.addi (BitVec.ofNat 32 p.val) 128#32) (BitVec.ofNat 32 p.val)
      = BitVec.ofNat 32 p.val := by
  revert p; decide
/-- A pair's number is left alone by the gather's clamping. -/
theorem take_pair (p : Fin 128) : min (BitVec.ofNat 32 p.val).toInt.toNat (128 - 1) = p.val := by
  revert p; decide

/-- A gather of the bits by pair numbers. -/
theorem take_of_pairs (x : IVec S128 1) (i : IVec S23 32) (w : Fin 23) (p : Fin 128) (hi : i (ix1 w) = BitVec.ofNat 32 p.val) :
    Host.gather gather_S128_S23x1_S23_n_0_n_n_0_1_1 x (broadcastInDim S23x1 ![0] bcast_S23_S23x1_0 i) (ix1 w) = x (ix1 p) := by
  have e : (ix1 w : (⟨1, ![23]⟩ : Shape).Idx) = Shape.Idx.ofFin w := by funext d; match d with | ⟨0, _⟩ => rfl
  rw [e, StableHlo.Predicate.gather_take gather_S128_S23x1_S23_n_0_n_n_0_1_1 rfl rfl rfl rfl _ _ w (by decide)]
  have hx : (broadcastInDim S23x1 ![0] bcast_S23_S23x1_0 i) (StableHlo.Predicate.ixP w) = BitVec.ofNat 32 p.val :=
    (congrArg i (by funext b; match b with | ⟨0, _⟩ => rfl)).trans hi
  refine congrArg x ?_
  funext d
  match d with
  | ⟨0, _⟩ => exact Fin.ext ((congrArg (fun v : BitVec 32 => min v.toInt.toNat (128 - 1)) hx).trans (take_pair p))

/-- A bit widened and compared with 1 is the bit. -/
theorem bit_word (x : BitVec 1) : IntOp.cmpi .eq (x.setWidth 32) 1#32 = x := by
  revert x; decide

/-- Whether item `w` meets, as the bit its pair has, -/
theorem vC_v45 (c : Dev nD) (w : Fin 23) : (VC m c (Proc.devRef .tc main_v45) : IVec S23 1) (ix1 w) = bitAt m c (code m c w) := by
  have h : (VC m c (Proc.devRef .tc main_v45) : IVec S23 1)
      = Host.gather gather_S128_S23x1_S23_n_0_n_n_0_1_1 (VB m c (Proc.devRef .tc main_v35) : IVec S128 1)
          (broadcastInDim S23x1 ![0] bcast_S23_S23x1_0 (VC m c (Proc.devRef .tc main_v43) : IVec S23 32)) := by
    unfold VC; after_reads_simp
  have hi : (VC m c (Proc.devRef .tc main_v43) : IVec S23 32) (ix1 w) = BitVec.ofNat 32 (code m c w).val := by
    have h0 : (VC m c (Proc.devRef .tc main_v43) : IVec S23 32) (ix1 w)
        = Scalar.select (IntOp.cmpi .slt ((VC m c (Proc.devRef .tc main_v38) : IVec S23 32) (ix1 w)) 0#32)
            (IntOp.addi ((VC m c (Proc.devRef .tc main_v38) : IVec S23 32) (ix1 w)) 128#32)
            ((VC m c (Proc.devRef .tc main_v38) : IVec S23 32) (ix1 w)) := by
      unfold VC
      after_reads_at
    rw [h0, vC_v38, wrap_pair]
  rw [h]
  exact take_of_pairs _ _ w _ hi
/-- as a word, -/
theorem vC_v46 (c : Dev nD) (w : Fin 23) : (VC m c (Proc.devRef .tc main_v46) : IVec S23 32) (ix1 w) = (bitAt m c (code m c w)).setWidth 32 := by
  rw [← vC_v45]
  unfold VC
  after_reads_simp
  rfl
/-- and as a bit again. -/
theorem vC_v48 (c : Dev nD) (w : Fin 23) : (VC m c (Proc.devRef .tc main_v48) : IVec S23 1) (ix1 w) = bitAt m c (code m c w) := by
  have h : (VC m c (Proc.devRef .tc main_v48) : IVec S23 1) (ix1 w) = IntOp.cmpi .eq ((VC m c (Proc.devRef .tc main_v46) : IVec S23 32) (ix1 w)) 1#32 := by
    unfold VC
    after_reads_simp
    rfl
  rw [h, vC_v46]
  exact bit_word _
/-- The divisor 8. -/
theorem vC_c_8 (c : Dev nD) : (VC m c (Proc.devRef .tc main_c_8) : IVec S_ 32) = constantI S_ 32 8#32 := by
  unfold VC
  after_reads_simp

/-- The tile and the expert of item `w`; an item that does not meet is put on the last tile and the last expert. -/
def tileOf (c : Dev nD) (w : Fin 23) : ℕ := if bitAt m c (code m c w) = 1#1 then (code m c w).val / 8 else 15
/-- The expert of a schedule entry. -/
def expertOf (c : Dev nD) (w : Fin 23) : ℕ := if bitAt m c (code m c w) = 1#1 then (code m c w).val % 8 else 7

/-- The floor division by 8 and the remainder by 8 of a pair's number, as the host computes them. -/
theorem div_pair (p : Fin 128) :
    Scalar.select (IntOp.andi
        (IntOp.cmpi .ne (if BitVec.ofNat 32 p.val = 0 then (0 : BitVec 32) else if (BitVec.ofNat 32 p.val).msb = true then -1 else 1)
          (if (8#32 : BitVec 32) = 0 then (0 : BitVec 32) else if (8#32 : BitVec 32).msb = true then -1 else 1))
        (IntOp.cmpi .ne (IntOp.remsi ArithUnit.host (BitVec.ofNat 32 p.val) 8#32) 0#32))
      (IntOp.subi (IntOp.divsi ArithUnit.host (BitVec.ofNat 32 p.val) 8#32) 1#32)
      (IntOp.divsi ArithUnit.host (BitVec.ofNat 32 p.val) 8#32) = BitVec.ofNat 32 (p.val / 8) := by
  revert p; decide +kernel
/-- The remainder by 8 of a pair's number, as the host computes it. -/
theorem rem_pair (p : Fin 128) :
    Scalar.select (IntOp.andi
        (IntOp.cmpi .ne
          (IntOp.cmpi .slt (IntOp.remsi ArithUnit.host (BitVec.ofNat 32 p.val) (Scalar.select (IntOp.cmpi .eq 8#32 0#32) (1#32) 8#32)) 0#32)
          (IntOp.cmpi .slt (Scalar.select (IntOp.cmpi .eq 8#32 0#32) (1#32) 8#32) 0#32))
        (IntOp.cmpi .ne (IntOp.remsi ArithUnit.host (BitVec.ofNat 32 p.val) (Scalar.select (IntOp.cmpi .eq 8#32 0#32) (1#32) 8#32)) 0#32))
      (IntOp.addi (IntOp.remsi ArithUnit.host (BitVec.ofNat 32 p.val) (Scalar.select (IntOp.cmpi .eq 8#32 0#32) (1#32) 8#32))
        (Scalar.select (IntOp.cmpi .eq 8#32 0#32) (1#32) 8#32))
      (IntOp.remsi ArithUnit.host (BitVec.ofNat 32 p.val) (Scalar.select (IntOp.cmpi .eq 8#32 0#32) (1#32) 8#32))
      = BitVec.ofNat 32 (p.val % 8) := by
  revert p; decide +kernel
/-- A choice by a bit between two numbers. -/
theorem select_bit (x : BitVec 1) (a b : ℕ) :
    Scalar.select x (BitVec.ofNat 32 a) (BitVec.ofNat 32 b) = BitVec.ofNat 32 (if x = 1#1 then a else b) := by
  revert x
  have h : ∀ x : BitVec 1, x = 0#1 ∨ x = 1#1 := by decide
  intro x
  rcases h x with rfl | rfl <;> rfl

/-- The entries' tiles. -/
theorem vD_v50 (c : Dev nD) (w : Fin 23) : (VD m c (Proc.devRef .tc main_v50) : IVec S23 32) (ix1 w) = BitVec.ofNat 32 (tileOf m c w) := by
  have e1 := vC_v38 m c w
  have e2 := vC_v48 m c w
  have e3 := vC_c_8 m c
  unfold VD
  after_reads_at
  rw [e1, e2, e3]
  exact (congrArg (Scalar.select (bitAt m c (code m c w)) · 15#32) (div_pair (code m c w))).trans (select_bit _ _ 15)
/-- The entries' experts. -/
theorem vD_v54 (c : Dev nD) (w : Fin 23) : (VD m c (Proc.devRef .tc main_v54) : IVec S23 32) (ix1 w) = BitVec.ofNat 32 (expertOf m c w) := by
  have e1 := vC_v38 m c w
  have e2 : IntOp.cmpi .eq ((VC m c (Proc.devRef .tc main_v46) : IVec S23 32) (ix1 w)) 1#32 = bitAt m c (code m c w) := by
    rw [vC_v46, bit_word]
  unfold VD
  after_reads_at
  rw [e1, e2]
  exact (congrArg (Scalar.select (bitAt m c (code m c w)) · 7#32) (rem_pair (code m c w))).trans (select_bit _ _ 7)
/-- The entries' bits. -/
theorem vD_v46 (c : Dev nD) (w : Fin 23) : (VD m c (Proc.devRef .tc main_v46) : IVec S23 32) (ix1 w) = (bitAt m c (code m c w)).setWidth 32 := by
  rw [← vC_v46]
  unfold VD
  after_reads_simp
/-- The tile number -1 that stands before the first entry. -/
theorem vD_c (c : Dev nD) : (VD m c (Proc.devRef .tc main_c) : IVec S1 32) = fun _ => -1#32 := by
  unfold VD
  after_reads_simp
  unfold VC
  after_reads_simp
  unfold VB
  after_reads_simp
  unfold VA
  after_reads_simp
  rfl

/-- The schedule table: a row of tiles, a row of experts, a row of first flags and a row of meeting flags. -/
abbrev sched (c : Dev nD) : IVec S4x23 32 := (V m c (Proc.devRef .tc main_v66) : IVec S4x23 32)

/-- Item `w` is the first of its tile: it meets, and the item before it is on another tile. -/
def startsTile (c : Dev nD) (w : Fin 23) : Prop :=
  bitAt m c (code m c w) = 1#1 ∧ ∀ h : 0 < w.val, tileOf m c w ≠ tileOf m c ⟨w.val - 1, by omega⟩

/-- A tile is one of 16. -/
theorem tileOf_lt (c : Dev nD) (w : Fin 23) : tileOf m c w < 16 := by
  unfold tileOf; have := (code m c w).isLt; split <;> omega
/-- An expert is one of 8. -/
theorem expertOf_lt (c : Dev nD) (w : Fin 23) : expertOf m c w < 8 := by
  unfold expertOf; split <;> omega

/-- Four vectors stacked into a table, read at a row of it. -/
theorem stack_rows (x0 x1 x2 x3 : IVec S23 32) (h) (k : Fin 4) (w : Fin 23) :
    concatenate S4x23 0 [⟨S1x23, broadcastInDim S1x23 ![1] bcast_S23_S1x23_1 x0⟩, ⟨S1x23, broadcastInDim S1x23 ![1] bcast_S23_S1x23_1 x1⟩,
      ⟨S1x23, broadcastInDim S1x23 ![1] bcast_S23_S1x23_1 x2⟩, ⟨S1x23, broadcastInDim S1x23 ![1] bcast_S23_S1x23_1 x3⟩] h (ix2 k w)
      = (![x0, x1, x2, x3] k) (ix1 w) := by
  refine (stack4_apply _ _ _ _ _ w k).trans ?_
  match k with
  | 0 => exact congrArg x0 (by funext b; match b with | ⟨0, _⟩ => rfl)
  | 1 => exact congrArg x1 (by funext b; match b with | ⟨0, _⟩ => rfl)
  | 2 => exact congrArg x2 (by funext b; match b with | ⟨0, _⟩ => rfl)
  | 3 => exact congrArg x3 (by funext b; match b with | ⟨0, _⟩ => rfl)

/-- The schedule, read at one of its rows. -/
theorem sched_stack (c : Dev nD) (k : Fin 4) (w : Fin 23) :
    sched m c (ix2 k w) = (![(VD m c (Proc.devRef .tc main_v50) : IVec S23 32), (VD m c (Proc.devRef .tc main_v54) : IVec S23 32),
      (V m c (Proc.devRef .tc main_v61) : IVec S23 32), (VD m c (Proc.devRef .tc main_v46) : IVec S23 32)] k) (ix1 w) := by
  unfold sched V
  after_reads_simp
  simp only [Matrix.cons_val, StableHlo.unary_result']
  after_reads_simp
  exact stack_rows _ _ _ _ _ k w

/-- The first row of the schedule: the tiles. -/
theorem sched_tile (c : Dev nD) (w : Fin 23) : sched m c (ix2 (0 : Fin 4) w) = BitVec.ofNat 32 (tileOf m c w) :=
  (sched_stack m c 0 w).trans (vD_v50 m c w)
/-- The second row of the schedule: the experts. -/
theorem sched_expert (c : Dev nD) (w : Fin 23) : sched m c (ix2 (1 : Fin 4) w) = BitVec.ofNat 32 (expertOf m c w) :=
  (sched_stack m c 1 w).trans (vD_v54 m c w)
/-- The fourth row of the schedule: the bits. -/
theorem sched_meets (c : Dev nD) (w : Fin 23) : sched m c (ix2 (3 : Fin 4) w) = (bitAt m c (code m c w)).setWidth 32 :=
  (sched_stack m c 3 w).trans (vD_v46 m c w)

/-- The first entry differs from the number before it, so it starts its tile just when its bit is set. -/
theorem first_word (x : BitVec 1) (a : ℕ) (ha : a < 16) :
    IntOp.andi (IntOp.cmpi .ne (BitVec.ofNat 32 a) (-1#32)) (IntOp.cmpi .eq (x.setWidth 32) 1#32) = x := by
  rw [bit_word]
  interval_cases a <;> revert x <;> decide
/-- A later entry starts its tile just when its bit is set and its tile is not that of the entry before. -/
theorem later_word (x : BitVec 1) (a b : ℕ) (ha : a < 16) (hb : b < 16) :
    IntOp.andi (IntOp.cmpi .ne (BitVec.ofNat 32 a) (BitVec.ofNat 32 b)) (IntOp.cmpi .eq (x.setWidth 32) 1#32) = 1#1 ↔ x = 1#1 ∧ a ≠ b := by
  have h : BitVec.ofNat 32 a = BitVec.ofNat 32 b ↔ a = b :=
    ⟨fun h => by have := congrArg BitVec.toNat h; simp only [BitVec.toNat_ofNat] at this; omega, fun h => by rw [h]⟩
  rw [bit_word]
  unfold IntOp.cmpi IntOp.andi
  show (BitVec.ofBool (BitVec.ofNat 32 a != BitVec.ofNat 32 b) &&& x = 1#1) ↔ _
  by_cases hab : a = b
  · subst hab; simp
  · have : (BitVec.ofNat 32 a != BitVec.ofNat 32 b) = true := by simpa [h] using hab
    rw [this]
    simp only [hab, ne_eq, not_false_eq_true, and_true]
    revert x; decide

/-- The bit that the third row holds for item `w`. -/
def firstBit (c : Dev nD) (w : Fin 23) : BitVec 1 :=
  IntOp.andi (IntOp.cmpi .ne (BitVec.ofNat 32 (tileOf m c w))
      (if h : w.val < 1 then -1#32 else BitVec.ofNat 32 (tileOf m c ⟨w.val - 1, by omega⟩)))
    (IntOp.cmpi .eq ((bitAt m c (code m c w)).setWidth 32) 1#32)

/-- The third row of the schedule: the first entries of the tiles. -/
theorem sched_first (c : Dev nD) (w : Fin 23) : sched m c (ix2 (2 : Fin 4) w) = (firstBit m c w).setWidth 32 := by
  refine (sched_stack m c 2 w).trans (?_ : (V m c (Proc.devRef .tc main_v61) : IVec S23 32) (ix1 w) = _)
  have e0 := fun w => vD_v50 m c w
  have e1 := vD_v46 m c w
  have e2 := vD_c m c
  unfold V
  after_reads_at
  after_reads_simp
  have e3 : (extractStridedSlice S22 ![0] (VD m c (Proc.devRef .tc main_v50)) slices_S23_S22_0 : IVec S22 32)
      = fun j => (VD m c (Proc.devRef .tc main_v50) : IVec S23 32) (ix1 ⟨(j 0).val, Nat.lt_succ_of_lt (j 0).isLt⟩) := by
    funext j
    pointwise
  rw [e3, e2, e1]
  simp only [e0]
  rfl

/-- The third row flags the items that start a tile. -/
theorem firstBit_iff (c : Dev nD) (w : Fin 23) : firstBit m c w = 1#1 ↔ startsTile m c w := by
  unfold firstBit startsTile
  by_cases h : w.val < 1
  · rw [dif_pos h, first_word _ _ (tileOf_lt m c w)]
    exact ⟨fun hx => ⟨hx, fun h' => absurd h' (by omega)⟩, fun hx => hx.1⟩
  · rw [dif_neg h, later_word _ _ _ (tileOf_lt m c w) (tileOf_lt m c _)]
    exact and_congr_right fun _ => ⟨fun hx _ => hx, fun hx => hx (by omega)⟩

end Cert.KernelIdeal.Gen
-- ==== Proof.KernelIdeal.Kit.lean ====
module

public import proofs.«01_k».proof.Proof.KernelIdeal.Host
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

/-! The launch set-up: the host program around the kernel, the prefetched tables, the windows' blocks. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments as the kernel finds them -/

section Args
set_option maxHeartbeats 2000000

/-- Argument 0 is still as given. -/
theorem V_main_arg0 (c : Dev nD) : V m c (Proc.devRef .tc main_arg0) = m (c, Proc.devRef .tc main_arg0) := by
  unfold V VD VC VB VA; after_reads_simp
/-- Argument 1 is still as given. -/
theorem V_main_arg1 (c : Dev nD) : V m c (Proc.devRef .tc main_arg1) = m (c, Proc.devRef .tc main_arg1) := by
  unfold V VD VC VB VA; after_reads_simp
/-- Argument 2 is still as given. -/
theorem V_main_arg2 (c : Dev nD) : V m c (Proc.devRef .tc main_arg2) = m (c, Proc.devRef .tc main_arg2) := by
  unfold V VD VC VB VA; after_reads_simp
/-- Argument 3 is still as given. -/
theorem V_main_arg3 (c : Dev nD) : V m c (Proc.devRef .tc main_arg3) = m (c, Proc.devRef .tc main_arg3) := by
  unfold V VD VC VB VA; after_reads_simp
/-- Argument 4 is still as given. -/
theorem V_main_arg4 (c : Dev nD) : V m c (Proc.devRef .tc main_arg4) = m (c, Proc.devRef .tc main_arg4) := by
  unfold V VD VC VB VA; after_reads_simp
/-- Argument 5 is still as given. -/
theorem V_main_arg5 (c : Dev nD) : V m c (Proc.devRef .tc main_arg5) = m (c, Proc.devRef .tc main_arg5) := by
  unfold V VD VC VB VA; after_reads_simp
/-- Argument 6 is still as given. -/
theorem V_main_arg6 (c : Dev nD) : V m c (Proc.devRef .tc main_arg6) = m (c, Proc.devRef .tc main_arg6) := by
  unfold V VD VC VB VA; after_reads_simp

end Args

/-! ## The host program around the kernel -/

/-- The host operations touch the TensorCore buffers alone. -/
theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub,
    hostOps0_15_sub, hostOps0_16_sub⟩

/-- The host operations allocate nothing. -/
theorem opss_fresh : (opss (F := F)).Forall fun ops => ops.Forall fun op => op.fresh = ∅ := by
  simp only [opss, List.forall_cons, List.Forall, hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15, hostOps0_16]
  repeat' constructor

/-- The program is host operations, the launch, and a last stretch of host operations. -/
theorem hmain (𝒱₀ : Variants) : Pipeline.HMainPK (Ix := Unit) (Name := ℕ) (U := UR sig nD τ) (Lvl := ℕ) pcfgs 0 defs₀ 𝒱₀ m (main (F := F))
    (fun c b => V m c (Proc.devRef .tc b)) (fun _ => Pipeline.chain ([hostOps1].map StableHlo.seq)) := by
  have h := Pipeline.hmainP_around (Ix := Unit) (Name := ℕ) (U := UR sig nD τ) (Lvl := ℕ) pcfgs 0 defs₀ 𝒱₀ m (main (F := F)) opss [hostOps1]
    opss_sub opss_fresh (fun c => (main_chain c).trans rfl)
  simp only [V_eq] at h
  exact h

/-! ## The prefetched tables -/

/-- What the tables hold when the kernel is entered (the program runs on one device). -/
def tbl : pre0.Contents (Elt F) := fun j => V m (0 : Dev nD) (Proc.devRef .tc (pre0.ref j))

/-- The prefetched tables at the launch. -/
theorem V_pre (c : Dev nD) (j : Fin 2) : V m c (Proc.devRef .tc (pre0.ref j)) = tbl m j := by
  obtain rfl : c = 0 := Subsingleton.elim _ _; rfl

/-- The pipeline's side condition of the tables, and the pipeline at them. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The host operations after the kernel -/

/-- What they write. -/
def tailWrites : Finset (Ref sig .tc) :=
  {main_cst, main_v70, main_c_14, main_v71, main_v72, main_c_15, main_v73, main_v74, main_v75, main_v76, main_v77}

/-- The last stretch touches buffers that stay outside the launch or its arrays. -/
theorem tail_sub : ∀ ops ∈ [(hostOps1 : List (HloOp τ sig (Elt F)))], ∀ op ∈ ops, op.bufs ⊆ Pipeline.tailRefs sig pre0 spec0 := by
  intro ops ho
  obtain rfl := List.mem_singleton.mp ho
  rw [← List.forall_iff_forall_mem]
  simp only [hostOps1, List.forall_cons, List.Forall, StableHlo.nullary_bufs, StableHlo.unary_bufs, StableHlo.binary_bufs, StableHlo.ternary_bufs]
  decide

/-- The last stretch allocates nothing. -/
theorem tail_fresh : ∀ ops ∈ [(hostOps1 : List (HloOp τ sig (Elt F)))], ∀ op ∈ ops, op.fresh = ∅ := by
  intro ops ho
  obtain rfl := List.mem_singleton.mp ho
  rw [← List.forall_iff_forall_mem]
  simp only [hostOps1, List.forall_cons, List.Forall]
  repeat' constructor

/-- Each operation of the last stretch writes one of the listed buffers. -/
theorem tail_writes : ∀ ops ∈ [(hostOps1 : List (HloOp τ sig (Elt F)))], ∀ op ∈ ops, ∃ b ∈ tailWrites, op.writes = {Proc.devRef .tc b} := by
  intro ops ho
  obtain rfl := List.mem_singleton.mp ho
  rw [← List.forall_iff_forall_mem]
  simp only [hostOps1, List.forall_cons, List.Forall, StableHlo.nullary_writes, StableHlo.unary_writes, StableHlo.binary_writes, StableHlo.ternary_writes]
  exact ⟨⟨main_cst, by decide, rfl⟩, ⟨main_v70, by decide, rfl⟩, ⟨main_c_14, by decide, rfl⟩, ⟨main_v71, by decide, rfl⟩, ⟨main_v72, by decide, rfl⟩,
    ⟨main_c_15, by decide, rfl⟩, ⟨main_v73, by decide, rfl⟩, ⟨main_v74, by decide, rfl⟩, ⟨main_v75, by decide, rfl⟩, ⟨main_v76, by decide, rfl⟩,
    ⟨main_v77, by decide, rfl⟩⟩

/-- None of them is one of the kernel's arrays. -/
theorem arr_not_written : ∀ w : Fin 7, Pipeline.arrRef spec0 w ∉ tailWrites := by decide

/-- The last stretch writes none of the kernel's arrays. -/
theorem tail_keep : ∀ ops ∈ [(hostOps1 : List (HloOp τ sig (Elt F)))], ∀ op ∈ ops, ∀ w : Fin 7, Proc.devRef .tc (Pipeline.arrRef spec0 w) ∉ op.writes := by
  intro ops ho op hop w hw
  obtain ⟨b, hb, e⟩ := tail_writes ops ho op hop
  rw [e, Finset.mem_singleton] at hw
  exact arr_not_written w (Proc.devRef_injective _ hw ▸ hb)

/-- Whatever the last stretch writes is listed. -/
theorem tail_T : ∀ ops ∈ [(hostOps1 : List (HloOp τ sig (Elt F)))], ∀ op ∈ ops, ∀ b : Ref sig .tc, Proc.devRef .tc b ∈ op.writes → b ∈ tailWrites := by
  intro ops ho op hop b hw
  obtain ⟨b', hb, e⟩ := tail_writes ops ho op hop
  rw [e, Finset.mem_singleton] at hw
  exact Proc.devRef_injective _ hw ▸ hb

/-! ## The tables as the body is handed them -/

abbrev tbM0_0 : Memref sig .tc .smem S4x23 .i32 := Memref.whole main_v66
abbrev htbM0_0 : tbM0_0.IsWhole := Memref.isWhole_whole _
abbrev tbM0_1 : Memref sig .tc .smem S9 .i32 := Memref.whole main_v13
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables that the body holds, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the kernel finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Proc.devRef .tc (Pipeline.arrRef spec0 w)))

/-- Each window's current staging memref at point `t`. -/
abbrev ms0_0 (hO : Ok m) (t : Fin (cfgM m hO).N) : Memref sig .tc .vmem S256x768 .f32 := spec0_0.stage ((cfgM m hO).slots t 0)
abbrev ms0_1 (hO : Ok m) (t : Fin (cfgM m hO).N) : Memref sig .tc .vmem S256x768 .f32 := spec0_1.stage ((cfgM m hO).slots t 1)
abbrev ms0_2 (hO : Ok m) (t : Fin (cfgM m hO).N) : Memref sig .tc .vmem S1x768x768 .f32 := spec0_2.stage ((cfgM m hO).slots t 2)
abbrev ms0_3 (hO : Ok m) (t : Fin (cfgM m hO).N) : Memref sig .tc .vmem S1x768x768 .f32 := spec0_3.stage ((cfgM m hO).slots t 3)
abbrev ms0_4 (hO : Ok m) (t : Fin (cfgM m hO).N) : Memref sig .tc .vmem S1x1x768 .f32 := spec0_4.stage ((cfgM m hO).slots t 4)
abbrev ms0_5 (hO : Ok m) (t : Fin (cfgM m hO).N) : Memref sig .tc .vmem S1x1 .f32 := spec0_5.stage ((cfgM m hO).slots t 5)
abbrev ms0_6 (hO : Ok m) (t : Fin (cfgM m hO).N) : Memref sig .tc .vmem S256x1 .f32 := spec0_6.stage ((cfgM m hO).slots t 6)

/-- The kernel body at point `t`, on what the pipeline calls it with. -/
abbrev bodyAt0 (a : (pcfg0 (F := F)).Adm) (t : Fin (cfg0 a).N) : Prog (TpuEff nD τ sig (Elt F) Λ₀ .tc) PUnit :=
  cc0__grouped_kernel (grid0.coords t) tbM0_0 htbM0_0 tbM0_1 htbM0_1
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))

/-- The body table's row is that body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

end Cert.KernelIdeal.Gen
-- ==== Proof.KernelIdeal.Body.lean ====
module

public import proofs.«01_k».proof.Proof.KernelIdeal.Kit
public import Idealize.ShloMosaic.Lib.VecWindow

/-! One grid point of the kernel: what the body leaves in the output's staging buffer. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word of the schedule table at the one-cell rectangle from `off`. -/
def word (c : Dev nD) (x : TbBuf0 (F := F) c tbM0_0) (off : Fin 2 → ℕ) (h : ∀ a, off a + S1x1.size a ≤ S4x23.size a) : BitVec 32 :=
  View.readAt (Elt F) tbM0_0.view (Rect.unit (s := S4x23) off S1x1.size h).toLoadRect x (Shape.Idx.first (show 0 < S1x1.numel by decide))

/-- The word of the offsets table at the one-cell rectangle from `off`. -/
def bound (c : Dev nD) (x : TbBuf0 (F := F) c tbM0_1) (off : Fin 1 → ℕ) (h : ∀ a, off a + S1.size a ≤ S9.size a) : BitVec 32 :=
  View.readAt (Elt F) tbM0_1.view (Rect.unit (s := S9) off S1.size h).toLoadRect x (Shape.Idx.first (show 0 < S1.numel by decide))

/-- What one grid point leaves in the output's buffer, of what it found there. -/
def step (c : Dev nD) (i : grid0.Coords) (xt0 : TbBuf0 (F := F) c tbM0_0) (xt1 : TbBuf0 (F := F) c tbM0_1)
    (hc : k0_chk1 (word c xt0 (k0_off2 i) (k0_off2_inb i)) (word c xt0 (k0_off4 i) (k0_off4_inb i)))
    (x3 : Vec F S256x768 .f32) (x4 : Vec F S256x768 .f32) (x5 : Vec F S1x768x768 .f32) (x6 : Vec F S1x768x768 .f32)
    (x7 : Vec F S1x1x768 .f32) (x8 : Vec F S1x1 .f32) (x9 : Vec F S256x1 .f32) : Vec F S256x1 .f32 :=
  let z := if k0_cond1 (word c xt0 (k0_off3 i) (k0_off3_inb i)) = 1#1 then k0_pay1 else x9
  if h : k0_cond2 (word c xt0 (k0_off4 i) (k0_off4_inb i)) = 1#1 then
    k0_pay2 (k0_pay3 x3 x4 x5 x6 x7 x8)
      (k0_pay4 (F := F) (word c xt0 (k0_off1 i) (k0_off1_inb i)) (bound c xt1 (k0_off5 (word c xt0 (k0_off2 i) (k0_off2_inb i))) (k0_off5_inb _ _ hc h))
        (bound c xt1 (k0_off6 (word c xt0 (k0_off2 i) (k0_off2_inb i))) (k0_off6_inb _ _ hc h)))
      (k0_pay5 z) (FloatOps.ofBits .f32 0)
  else z

set_option maxHeartbeats 4000000 in
theorem body_run (c : Dev nD) (i : grid0.Coords)
    (arg3 : Memref sig .tc .vmem S256x768 .f32) (harg3 : arg3.IsWhole) (arg4 : Memref sig .tc .vmem S256x768 .f32) (harg4 : arg4.IsWhole)
    (arg5 : Memref sig .tc .vmem S1x768x768 .f32) (harg5 : arg5.IsWhole) (arg6 : Memref sig .tc .vmem S1x768x768 .f32) (harg6 : arg6.IsWhole)
    (arg7 : Memref sig .tc .vmem S1x1x768 .f32) (harg7 : arg7.IsWhole) (arg8 : Memref sig .tc .vmem S1x1 .f32) (harg8 : arg8.IsWhole)
    (arg9 : Memref sig .tc .vmem S256x1 .f32) (harg9 : arg9.IsWhole)
    (x3 : Vec F S256x768 .f32) (x4 : Vec F S256x768 .f32) (x5 : Vec F S1x768x768 .f32) (x6 : Vec F S1x768x768 .f32)
    (x7 : Vec F S1x1x768 .f32) (x8 : Vec F S1x1 .f32) (x9 : Vec F S256x1 .f32)
    (xt0 : TbBuf0 (F := F) c tbM0_0) (xt1 : TbBuf0 (F := F) c tbM0_1)
    (hc : k0_chk1 (word c xt0 (k0_off2 i) (k0_off2_inb i)) (word c xt0 (k0_off4 i) (k0_off4_inb i)))
    (E : Set ℕ) (K : PUnit → sProp 𝕄) :
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9 ∗ tbPt0 c tbM0_0 xt0 ∗ tbPt0 c tbM0_1 xt1
            ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (step c i xt0 xt1 hc x3 x4 x5 x6 x7 x8 x9) ∗ tbPt0 c tbM0_0 xt0 ∗ tbPt0 c tbM0_1 xt1) -∗ K ⟨⟩))
          ⊢ wp frame (wpE (defs₀ (F := F)) Variants.none c none) E
            (cc0__grouped_kernel i tbM0_0 htbM0_0 tbM0_1 htbM0_1 arg3 harg3 arg4 harg4 arg5 harg5 arg6 harg6 arg7 harg7 arg8 harg8 arg9 harg9) K := by
    simp only [cc0__grouped_kernel_eq_skeleton]; unfold cc0__grouped_kernel_skel
    simp only [k0_part1_eq_skeleton]; unfold k0_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    have e3 : View.readAt (Elt F) arg3.view (Rect.unit ![0, 0] ![256, 768] inb_S256x768_S256x768_0_0).toLoadRect (harg3.unread x3) = x3 :=
      (View.readAt_full arg3.view _ inb_S256x768_S256x768_0_0).trans hf3
    have e4 : View.readAt (Elt F) arg4.view (Rect.unit ![0, 0] ![256, 768] inb_S256x768_S256x768_0_0).toLoadRect (harg4.unread x4) = x4 :=
      (View.readAt_full arg4.view _ inb_S256x768_S256x768_0_0).trans hf4
    have e5 : View.readAt (Elt F) arg5.view (Rect.unit ![0, 0, 0] ![1, 768, 768] inb_S1x768x768_S1x768x768_0_0_0).toLoadRect (harg5.unread x5) = x5 :=
      (View.readAt_full arg5.view _ inb_S1x768x768_S1x768x768_0_0_0).trans hf5
    have e6 : View.readAt (Elt F) arg6.view (Rect.unit ![0, 0, 0] ![1, 768, 768] inb_S1x768x768_S1x768x768_0_0_0).toLoadRect (harg6.unread x6) = x6 :=
      (View.readAt_full arg6.view _ inb_S1x768x768_S1x768x768_0_0_0).trans hf6
    have e7 : View.readAt (Elt F) arg7.view (Rect.unit ![0, 0, 0] ![1, 1, 768] inb_S1x1x768_S1x1x768_0_0_0).toLoadRect (harg7.unread x7) = x7 :=
      (View.readAt_full arg7.view _ inb_S1x1x768_S1x1x768_0_0_0).trans hf7
    have e8 : View.readAt (Elt F) arg8.view (Rect.unit ![0, 0] ![1, 1] inb_S1x1_S1x1_0_0).toLoadRect (harg8.unread x8) = x8 :=
      (View.readAt_full arg8.view _ inb_S1x1_S1x1_0_0).trans hf8
    have e9 : View.readAt (Elt F) arg9.view (Rect.unit ![0, 0] ![256, 1] inb_S256x1_S256x1_0_0).toLoadRect (harg9.unread x9) = x9 :=
      (View.readAt_full arg9.view _ inb_S256x1_S256x1_0_0).trans hf9
    by_cases h1 : k0_cond1 (word c xt0 (k0_off3 i) (k0_off3_inb i)) = 1#1 <;> by_cases h2 : k0_cond2 (word c xt0 (k0_off4 i) (k0_off4_inb i)) = 1#1
    · sl_exec (disch := first | exact hc | exact h1 | exact h2)
      sl_step
      iapply Hk
      isplitl [H3]
      · iexists _; isplit
        · ipureintro; exact harg3.read_unread x3
        iexact H3
      isplitl [H4]
      · iexists _; isplit
        · ipureintro; exact harg4.read_unread x4
        iexact H4
      isplitl [H5]
      · iexists _; isplit
        · ipureintro; exact harg5.read_unread x5
        iexact H5
      isplitl [H6]
      · iexists _; isplit
        · ipureintro; exact harg6.read_unread x6
        iexact H6
      isplitl [H7]
      · iexists _; isplit
        · ipureintro; exact harg7.read_unread x7
        iexact H7
      isplitl [H8]
      · iexists _; isplit
        · ipureintro; exact harg8.read_unread x8
        iexact H8
      isplitl [H9]
      · iexists _; isplit; swap
        · iexact H9
        · ipureintro
          refine (View.read_writes_full arg9.view _ inb_S256x1_S256x1_0_0 _ _).trans ?_
          unfold step
          rw [dif_pos h2, if_pos h1]
          have e : body_run.sl.v49 (F := F) c arg9 = k0_pay1 := View.readCov_full arg9.view inb_S256x1_S256x1_0_0 inb_S256x1_S256x1_0_0 _ _
          rw [e]
          rfl
      isplitl [HT0]; · iexact HT0
      iexact HT1
    · sl_exec (disch := first | exact hc | exact h1 | exact h2)
      sl_step
      iapply Hk
      isplitl [H3]
      · iexists _; isplit
        · ipureintro; exact harg3.read_unread x3
        iexact H3
      isplitl [H4]
      · iexists _; isplit
        · ipureintro; exact harg4.read_unread x4
        iexact H4
      isplitl [H5]
      · iexists _; isplit
        · ipureintro; exact harg5.read_unread x5
        iexact H5
      isplitl [H6]
      · iexists _; isplit
        · ipureintro; exact harg6.read_unread x6
        iexact H6
      isplitl [H7]
      · iexists _; isplit
        · ipureintro; exact harg7.read_unread x7
        iexact H7
      isplitl [H8]
      · iexists _; isplit
        · ipureintro; exact harg8.read_unread x8
        iexact H8
      isplitl [H9]
      · iexists _; isplit; swap
        · iexact H9
        · ipureintro
          unfold step
          rw [dif_neg h2, if_pos h1]
          exact View.read_writes_full arg9.view _ inb_S256x1_S256x1_0_0 _ _
      isplitl [HT0]; · iexact HT0
      iexact HT1
    · sl_exec (disch := first | exact hc | exact h1 | exact h2)
      sl_step
      iapply Hk
      isplitl [H3]
      · iexists _; isplit
        · ipureintro; exact harg3.read_unread x3
        iexact H3
      isplitl [H4]
      · iexists _; isplit
        · ipureintro; exact harg4.read_unread x4
        iexact H4
      isplitl [H5]
      · iexists _; isplit
        · ipureintro; exact harg5.read_unread x5
        iexact H5
      isplitl [H6]
      · iexists _; isplit
        · ipureintro; exact harg6.read_unread x6
        iexact H6
      isplitl [H7]
      · iexists _; isplit
        · ipureintro; exact harg7.read_unread x7
        iexact H7
      isplitl [H8]
      · iexists _; isplit
        · ipureintro; exact harg8.read_unread x8
        iexact H8
      isplitl [H9]
      · iexists _; isplit; swap
        · iexact H9
        · ipureintro
          refine (View.read_writes_full arg9.view _ inb_S256x1_S256x1_0_0 _ _).trans ?_
          unfold step
          rw [dif_pos h2, if_neg h1]
          rfl
      isplitl [HT0]; · iexact HT0
      iexact HT1
    · sl_exec (disch := first | exact hc | exact h1 | exact h2)
      sl_step
      iapply Hk
      isplitl [H3]
      · iexists _; isplit
        · ipureintro; exact harg3.read_unread x3
        iexact H3
      isplitl [H4]
      · iexists _; isplit
        · ipureintro; exact harg4.read_unread x4
        iexact H4
      isplitl [H5]
      · iexists _; isplit
        · ipureintro; exact harg5.read_unread x5
        iexact H5
      isplitl [H6]
      · iexists _; isplit
        · ipureintro; exact harg6.read_unread x6
        iexact H6
      isplitl [H7]
      · iexists _; isplit
        · ipureintro; exact harg7.read_unread x7
        iexact H7
      isplitl [H8]
      · iexists _; isplit
        · ipureintro; exact harg8.read_unread x8
        iexact H8
      isplitl [H9]
      · iexists _; isplit; swap
        · iexact H9
        · ipureintro
          unfold step
          rw [dif_neg h2, if_neg h1]
          exact hf9
      isplitl [HT0]; · iexact HT0
      iexact HT1
end Cert.KernelIdeal.Gen
-- ==== Proof.KernelIdeal.Tables.lean ====
module

public import proofs.«01_k».proof.Proof.KernelIdeal.Body

/-! What the index maps and the body read from the schedule table, and that every block they name lies inside its array. -/

@[expose] public section

set_option maxRecDepth 16384

noncomputable section

namespace Cert.KernelIdeal.Gen

open Idealize.ShloMosaic Idealize.ShloMosaic.TcCoe Idealize.ShloMosaic.Tactic

variable {F : FTy → Type} [FloatOps F]

variable (m : (ℓ : Loc nD τ sig) → Buf (Elt F) ℓ)

/-- The grid's one coordinate, as an item of the schedule. -/
def item (i : grid0.Coords) : Fin 23 := i 0

/-- A grid point's number as an index. -/
theorem cell_word (i : grid0.Coords) : (Scalar.indexCast (BitVec.ofNat 32 (i 0).val) : Index).toNat = (item i).val := by
  have h : (i 0).val < 23 := (i 0).isLt
  show (BitVec.ofNat 32 (i 0).val).toNat = (i 0).val
  rw [BitVec.toNat_ofNat]; omega

/-- One cell of the table under a one-cell rectangle. -/
theorem table_at (x : IVec S4x23 32) (k : Fin 4) (i : grid0.Coords) (off : Fin 2 → ℕ) (h : ∀ a, off a + S1x1.size a ≤ S4x23.size a)
    (e : off = ![k.val, (Scalar.indexCast (BitVec.ofNat 32 (i 0).val) : Index).toNat]) (j : (Rect.unit (s := S4x23) off S1x1.size h).shape.Idx) :
    x ((Rect.unit (s := S4x23) off S1x1.size h).emb j) = x (ix2 k (item i)) := by
  rw [cell_word] at e
  subst e
  refine congrArg x (funext fun a => ?_)
  match a with
  | ⟨0, _⟩ =>
    refine Fin.ext (show k.val + 1 * (j 0).val = k.val from ?_)
    have : (j 0).val < 1 := (j 0).isLt
    omega
  | ⟨1, _⟩ =>
    refine Fin.ext (show (item i).val + 1 * (j 1).val = (item i).val from ?_)
    have : (j 1).val < 1 := (j 1).isLt
    omega

/-- The block indices of the windows that follow the schedule, over any contents of the table. -/
theorem map_0 (pf : pre0.Contents (Elt F)) (i : grid0.Coords) :
    cc0_transform_0 (F := F) k0_off1_inb numel1_S1x1 pf i = ![((pf 0 : IVec S4x23 32) (ix2 0 (item i))).toNat, 0] := by
  unfold cc0_transform_0
  exact congrArg (fun n : BitVec 32 => ![n.toNat, 0]) (table_at (pf 0) 0 i _ _ rfl _)
/-- The index map of window 1 (sorted target rows). -/
theorem map_1 (pf : pre0.Contents (Elt F)) (i : grid0.Coords) :
    cc0_transform_1 (F := F) k0_off1_inb numel1_S1x1 pf i = ![((pf 0 : IVec S4x23 32) (ix2 0 (item i))).toNat, 0] := by
  unfold cc0_transform_1
  exact congrArg (fun n : BitVec 32 => ![n.toNat, 0]) (table_at (pf 0) 0 i _ _ rfl _)
/-- The index map of window 2 (projection weights). -/
theorem map_2 (pf : pre0.Contents (Elt F)) (i : grid0.Coords) :
    cc0_transform_2 (F := F) k0_off2_inb numel1_S1x1 pf i = ![((pf 0 : IVec S4x23 32) (ix2 1 (item i))).toNat, 0, 0] := by
  unfold cc0_transform_2
  exact congrArg (fun n : BitVec 32 => ![n.toNat, 0, 0]) (table_at (pf 0) 1 i _ _ rfl _)
/-- The index map of window 4 (projection biases). -/
theorem map_4 (pf : pre0.Contents (Elt F)) (i : grid0.Coords) :
    cc0_transform_4 (F := F) k0_off2_inb numel1_S1x1 pf i = ![((pf 0 : IVec S4x23 32) (ix2 1 (item i))).toNat, 0, 0] := by
  unfold cc0_transform_4
  exact congrArg (fun n : BitVec 32 => ![n.toNat, 0, 0]) (table_at (pf 0) 1 i _ _ rfl _)
/-- The index map of window 6 (output). -/
theorem map_6 (pf : pre0.Contents (Elt F)) (i : grid0.Coords) :
    cc0_transform_6 (F := F) k0_off1_inb numel1_S1x1 pf i = ![((pf 0 : IVec S4x23 32) (ix2 0 (item i))).toNat, 0] := by
  unfold cc0_transform_6
  exact congrArg (fun n : BitVec 32 => ![n.toNat, 0]) (table_at (pf 0) 0 i _ _ rfl _)

/-- Blocks whose tile and expert are in range lie inside their arrays. -/
theorem ok_of (pf : pre0.Contents (Elt F)) (ht : ∀ w : Fin 23, ((pf 0 : IVec S4x23 32) (ix2 0 w)).toNat < 16)
    (he : ∀ w : Fin 23, ((pf 0 : IVec S4x23 32) (ix2 1 w)).toNat < 8) : ok0 (F := F) pf := by
  refine ⟨fun i => ⟨?_, .inl rfl⟩, fun i => ⟨?_, .inl rfl⟩, fun i => ⟨?_, .inl rfl⟩, fun i => ⟨?_, .inl rfl⟩, fun i => ⟨?_, .inl rfl⟩⟩
  · rw [map_0]; have := ht (item i); generalize ((pf 0 : IVec S4x23 32) (ix2 0 (item i))).toNat = n at this ⊢
    intro a; fin_cases a
    · show (n + 1) * 256 ≤ 4096; omega
    · show (0 + 1) * 768 ≤ 768; decide
  · rw [map_1]; have := ht (item i); generalize ((pf 0 : IVec S4x23 32) (ix2 0 (item i))).toNat = n at this ⊢
    intro a; fin_cases a
    · show (n + 1) * 256 ≤ 4096; omega
    · show (0 + 1) * 768 ≤ 768; decide
  · rw [map_2]; have := he (item i); generalize ((pf 0 : IVec S4x23 32) (ix2 1 (item i))).toNat = n at this ⊢
    intro a; fin_cases a
    · show (n + 1) * 1 ≤ 8; omega
    · show (0 + 1) * 768 ≤ 768; decide
    · show (0 + 1) * 768 ≤ 768; decide
  · rw [map_4]; have := he (item i); generalize ((pf 0 : IVec S4x23 32) (ix2 1 (item i))).toNat = n at this ⊢
    intro a; fin_cases a
    · show (n + 1) * 1 ≤ 8; omega
    · show (0 + 1) * 1 ≤ 1; decide
    · show (0 + 1) * 768 ≤ 768; decide
  · rw [map_6]; have := ht (item i); generalize ((pf 0 : IVec S4x23 32) (ix2 0 (item i))).toNat = n at this ⊢
    intro a; fin_cases a
    · show (n + 1) * 256 ≤ 4096; omega
    · show (0 + 1) * 1 ≤ 1; decide

/-! ## The table's rows as the kernel finds them -/

/-- The first prefetched table is the schedule. -/
theorem tbl_eq : (tbl m 0 : IVec S4x23 32) = sched m 0 := rfl

/-- The tiles in the prefetched table, as numbers. -/
theorem tile_nat (w : Fin 23) : ((tbl m 0 : IVec S4x23 32) (ix2 0 w)).toNat = tileOf m 0 w := by
  rw [tbl_eq, sched_tile]
  have := tileOf_lt m 0 w; rw [BitVec.toNat_ofNat]; omega
/-- The experts in the prefetched table, as numbers. -/
theorem expert_nat (w : Fin 23) : ((tbl m 0 : IVec S4x23 32) (ix2 1 w)).toNat = expertOf m 0 w := by
  rw [tbl_eq, sched_expert]
  have := expertOf_lt m 0 w; rw [BitVec.toNat_ofNat]; omega

/-- Every block lies inside its array, whatever the memory. -/
theorem ok_tbl : Ok m :=
  ok_of (tbl m) (fun w => (tile_nat m w).symm ▸ tileOf_lt m 0 w) (fun w => (expert_nat m w).symm ▸ expertOf_lt m 0 w)

/-! ## The words the body reads -/

/-- A word of the schedule as the body reads it. -/
theorem word_eq (c : Dev nD) (x : IVec S4x23 32) (k : Fin 4) (i : grid0.Coords) (off : Fin 2 → ℕ) (h : ∀ a, off a + S1x1.size a ≤ S4x23.size a)
    (e : off = ![k.val, (Scalar.indexCast (BitVec.ofNat 32 (i 0).val) : Index).toNat]) : word (F := F) c x off h = x (ix2 k (item i)) :=
  table_at x k i off h e _

/-- The tile the body reads. -/
theorem word_tile (c : Dev nD) (i : grid0.Coords) : word (F := F) c (tbl m 0) (k0_off1 i) (k0_off1_inb i) = BitVec.ofNat 32 (tileOf m 0 (item i)) :=
  (word_eq c (sched m 0) 0 i _ _ rfl).trans (sched_tile m 0 (item i))
/-- The expert the body reads. -/
theorem word_expert (c : Dev nD) (i : grid0.Coords) : word (F := F) c (tbl m 0) (k0_off2 i) (k0_off2_inb i) = BitVec.ofNat 32 (expertOf m 0 (item i)) :=
  (word_eq c (sched m 0) 1 i _ _ rfl).trans (sched_expert m 0 (item i))
/-- The first-of-its-tile word the body reads. -/
theorem word_first (c : Dev nD) (i : grid0.Coords) : word (F := F) c (tbl m 0) (k0_off3 i) (k0_off3_inb i) = (firstBit m 0 (item i)).setWidth 32 :=
  (word_eq c (sched m 0) 2 i _ _ rfl).trans (sched_first m 0 (item i))
/-- The bit the body reads. -/
theorem word_meets (c : Dev nD) (i : grid0.Coords) :
    word (F := F) c (tbl m 0) (k0_off4 i) (k0_off4_inb i) = (bitAt m 0 (code m 0 (item i))).setWidth 32 :=
  (word_eq c (sched m 0) 3 i _ _ rfl).trans (sched_meets m 0 (item i))

/-- The expert and the one after it are within the offsets table. -/
theorem chk_of (v1 v5 : BitVec 32) (h : v1.toNat < 8) : k0_chk1 v1 v5 := by
  refine ⟨fun _ a => ?_, fun _ a => ?_⟩
  · obtain rfl : a = 0 := Subsingleton.elim _ _
    show v1.toNat + 1 ≤ 9
    omega
  · obtain rfl : a = 0 := Subsingleton.elim _ _
    show (v1 + 1#32).toNat + 1 ≤ 9
    rw [BitVec.toNat_add]; simp; omega

/-- The bounds the body reads lie inside their table. -/
theorem chk (c : Dev nD) (i : grid0.Coords) :
    k0_chk1 (word (F := F) c (tbl m 0) (k0_off2 i) (k0_off2_inb i)) (word (F := F) c (tbl m 0) (k0_off4 i) (k0_off4_inb i)) :=
  chk_of _ _ (by
    rw [word_expert, BitVec.toNat_ofNat]
    have := expertOf_lt m 0 (item i)
    omega)

end Cert.KernelIdeal.Gen
-- ==== Proof.KernelIdeal.Points.lean ====
module

public import proofs.«01_k».proof.Proof.KernelIdeal.Tables

/-! The pipeline's proof data and one grid point's run under it, for any record of the output's contents. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents of an output block, point by point. -/
abbrev Outs (hO : Ok m) : Type := (t : Fin (cfgM m hO).N) → (((cfgM m hO).win 6).block).Idx → Elt F ((cfgM m hO).win 6).elt

/-- The pipeline's proof data: the arrays as the kernel finds them, each input's buffer at its block, the output's at `o`. -/
def datsOf (hO : Ok m) (o : Dev nD → Outs m hO) (_ : Fin 1) (c : Dev nD) : Dat τ (Elt F) Unit ℕ (UR sig nD τ) ℕ (cfgM m hO) c where
  A w := V m c (Proc.devRef .tc (Pipeline.arrRef spec0 w))
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => o c t
  Φ _ := iprop(Pipeline.ΦA spec0 c ∗ Pipeline.ΦT pre0 (tbl m) c)
  q _ := fullShare
  owed _ := 0

variable (hO : Ok m) (o : Dev nD → Outs m hO)

/-- A window's array at the launch. -/
theorem A_eq (c : Dev nD) (w : Fin (cfgM m hO).W) : (datsOf m hO o 0 c).A w = V m c (Proc.devRef .tc (Pipeline.arrRef spec0 w)) := by
  dsimp only [datsOf]

/-- The data's contents of window 0 (sorted source rows) after a point. -/
theorem after0_0 (c : Dev nD) (t : Fin (cfgM m hO).N) : (datsOf m hO o 0 c).after 0 t = iblk m hO c 0 t := by dsimp only [datsOf]; try rfl
/-- The data's contents of window 1 (sorted target rows) after a point. -/
theorem after0_1 (c : Dev nD) (t : Fin (cfgM m hO).N) : (datsOf m hO o 0 c).after 1 t = iblk m hO c 1 t := by dsimp only [datsOf]; try rfl
/-- The data's contents of window 2 (projection weights) after a point. -/
theorem after0_2 (c : Dev nD) (t : Fin (cfgM m hO).N) : (datsOf m hO o 0 c).after 2 t = iblk m hO c 2 t := by dsimp only [datsOf]; try rfl
/-- The data's contents of window 3 (bilinear form) after a point. -/
theorem after0_3 (c : Dev nD) (t : Fin (cfgM m hO).N) : (datsOf m hO o 0 c).after 3 t = iblk m hO c 3 t := by dsimp only [datsOf]; try rfl
/-- The data's contents of window 4 (projection biases) after a point. -/
theorem after0_4 (c : Dev nD) (t : Fin (cfgM m hO).N) : (datsOf m hO o 0 c).after 4 t = iblk m hO c 4 t := by dsimp only [datsOf]; try rfl
/-- The data's contents of window 5 (last bias) after a point. -/
theorem after0_5 (c : Dev nD) (t : Fin (cfgM m hO).N) : (datsOf m hO o 0 c).after 5 t = iblk m hO c 5 t := by dsimp only [datsOf]; try rfl
/-- The data's contents of window 6 (output) after a point. -/
theorem after0_6 (c : Dev nD) (t : Fin (cfgM m hO).N) : (datsOf m hO o 0 c).after 6 t = o c t := by dsimp only [datsOf]; try rfl

/-! Each input's staging buffer holds its block at every point, fetched there or not. -/

/-- Window 0 (sorted source rows) holds its block before a point. -/
theorem before0_0 (c : Dev nD) (t : Fin (cfgM m hO).N) (d) : (datsOf m hO o 0 c).before 0 t d = iblk m hO c 0 t :=
  ((datsOf m hO o 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1 (sorted target rows) holds its block before a point. -/
theorem before0_1 (c : Dev nD) (t : Fin (cfgM m hO).N) (d) : (datsOf m hO o 0 c).before 1 t d = iblk m hO c 1 t :=
  ((datsOf m hO o 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2 (projection weights) holds its block before a point. -/
theorem before0_2 (c : Dev nD) (t : Fin (cfgM m hO).N) (d) : (datsOf m hO o 0 c).before 2 t d = iblk m hO c 2 t :=
  ((datsOf m hO o 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3 (bilinear form) holds its block before a point. -/
theorem before0_3 (c : Dev nD) (t : Fin (cfgM m hO).N) (d) : (datsOf m hO o 0 c).before 3 t d = iblk m hO c 3 t :=
  ((datsOf m hO o 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 4 (projection biases) holds its block before a point. -/
theorem before0_4 (c : Dev nD) (t : Fin (cfgM m hO).N) (d) : (datsOf m hO o 0 c).before 4 t d = iblk m hO c 4 t :=
  ((datsOf m hO o 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Window 5 (last bias) holds its block before a point. -/
theorem before0_5 (c : Dev nD) (t : Fin (cfgM m hO).N) (d) : (datsOf m hO o 0 c).before 5 t d = iblk m hO c 5 t :=
  ((datsOf m hO o 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- What point `t` leaves in the output's buffer where it finds `d`. -/
def outStep (c : Dev nD) (t : Fin (cfgM m hO).N) (d : Vec F S256x1 .f32) : Vec F S256x1 .f32 :=
  step c (grid0.coords t) (tbl m 0) (tbl m 1) (chk m c (grid0.coords t)) (iblk m hO c 0 t) (iblk m hO c 1 t) (iblk m hO c 2 t) (iblk m hO c 3 t)
    (iblk m hO c 4 t) (iblk m hO c 5 t) d

/-- What the body is called with at point `t`, the output's buffer as `R` says, -/
def bodyPre (c : Dev nD) (t : Fin (cfgM m hO).N) (R : sProp 𝕄) : sProp 𝕄 :=
  iprop((datsOf m hO o 0 c).Φ t.castSucc ∗ (datsOf m hO o 0 c).owesAt () t.castSucc
    ∗ (∃ d, owns (c : Thread nD τ) (ms0_0 m hO t) fullShare ((datsOf m hO o 0 c).before 0 t d))
    ∗ (∃ d, owns (c : Thread nD τ) (ms0_1 m hO t) fullShare ((datsOf m hO o 0 c).before 1 t d))
    ∗ (∃ d, owns (c : Thread nD τ) (ms0_2 m hO t) fullShare ((datsOf m hO o 0 c).before 2 t d))
    ∗ (∃ d, owns (c : Thread nD τ) (ms0_3 m hO t) fullShare ((datsOf m hO o 0 c).before 3 t d))
    ∗ (∃ d, owns (c : Thread nD τ) (ms0_4 m hO t) fullShare ((datsOf m hO o 0 c).before 4 t d))
    ∗ (∃ d, owns (c : Thread nD τ) (ms0_5 m hO t) fullShare ((datsOf m hO o 0 c).before 5 t d))
    ∗ R)

/-- and what it returns. -/
def bodyPost (c : Dev nD) (t : Fin (cfgM m hO).N) (R : sProp 𝕄) : sProp 𝕄 :=
  iprop((datsOf m hO o 0 c).Φ t.succ ∗ (datsOf m hO o 0 c).owesAt () t.succ
    ∗ owns (c : Thread nD τ) (ms0_0 m hO t) fullShare ((datsOf m hO o 0 c).after 0 t)
    ∗ owns (c : Thread nD τ) (ms0_1 m hO t) fullShare ((datsOf m hO o 0 c).after 1 t)
    ∗ owns (c : Thread nD τ) (ms0_2 m hO t) fullShare ((datsOf m hO o 0 c).after 2 t)
    ∗ owns (c : Thread nD τ) (ms0_3 m hO t) fullShare ((datsOf m hO o 0 c).after 3 t)
    ∗ owns (c : Thread nD τ) (ms0_4 m hO t) fullShare ((datsOf m hO o 0 c).after 4 t)
    ∗ owns (c : Thread nD τ) (ms0_5 m hO t) fullShare ((datsOf m hO o 0 c).after 5 t)
    ∗ R)

/-- A point's postcondition may be weakened in its remainder. -/
theorem bodyPost_mono (c : Dev nD) (t : Fin (cfgM m hO).N) {R R' : sProp 𝕄} (h : R ⊢ R') : bodyPost m hO o c t R ⊢ bodyPost m hO o c t R' := by
  unfold bodyPost
  exact sep_mono .rfl (sep_mono .rfl (sep_mono .rfl (sep_mono .rfl (sep_mono .rfl (sep_mono .rfl (sep_mono .rfl (sep_mono .rfl h)))))))

/-- One grid point. -/
theorem sound_body (c : Dev nD) (t : Fin (cfgM m hO).N) (d : Vec F S256x1 .f32) :
    bodyPre m hO o c t (owns (c : Thread nD τ) (ms0_6 m hO t) fullShare d) ⊢ wp frame (wpE (defs₀ (F := F)) Variants.none c none) Set.univ (bodyAt0 (adm m hO) t)
      (fun _ => bodyPost m hO o c t (owns (c : Thread nD τ) (ms0_6 m hO t) fullShare (outStep m hO c t d))) := by
  unfold bodyPre bodyPost bodyAt0
  simp only [before0_0, before0_1, before0_2, before0_3, before0_4, before0_5]
  rw [show (datsOf m hO o 0 c).Φ t.succ = (datsOf m hO o 0 c).Φ t.castSucc from rfl,
    show (datsOf m hO o 0 c).owesAt () t.succ = (datsOf m hO o 0 c).owesAt () t.castSucc from rfl,
    after0_0, after0_1, after0_2, after0_3, after0_4, after0_5]
  rw [show (datsOf m hO o 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, H6⟩
  iapply (body_run c (grid0.coords t) _ _ _ _ _ _ _ _ _ _ _ _ _ _ (iblk m hO c 0 t) (iblk m hO c 1 t) (iblk m hO c 2 t) (iblk m hO c 3 t)
    (iblk m hO c 4 t) (iblk m hO c 5 t) d (tbl m 0) (tbl m 1) (chk m c (grid0.coords t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  iintro ⟨H0, H1, H2, H3, H4, H5, H6, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- One grid point, the output's buffer at some one of several contents. -/
theorem sound_body_of (c : Dev nD) (t : Fin (cfgM m hO).N) {ι : Type} (x : ι → Vec F S256x1 .f32) (R : sProp 𝕄)
    (h : ∀ d, owns (c : Thread nD τ) (ms0_6 m hO t) fullShare (outStep m hO c t (x d)) ⊢ R) :
    bodyPre m hO o c t iprop(∃ d, owns (c : Thread nD τ) (ms0_6 m hO t) fullShare (x d))
      ⊢ wp frame (wpE (defs₀ (F := F)) Variants.none c none) Set.univ (bodyAt0 (adm m hO) t) (fun _ => bodyPost m hO o c t R) := by
  have e : bodyPre m hO o c t iprop(∃ d, owns (c : Thread nD τ) (ms0_6 m hO t) fullShare (x d))
      ⊢ iprop(∃ d, bodyPre m hO o c t (owns (c : Thread nD τ) (ms0_6 m hO t) fullShare (x d))) := by
    unfold bodyPre
    iintro ⟨HΦ, Ho, H0, H1, H2, H3, H4, H5, ⟨%d, H6⟩⟩
    iexists d
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  refine e.trans ?_
  · iintro ⟨%d, H⟩
    iapply ((sound_body m hO o c t (x d)).trans (wp_mono _ _ _ fun _ => bodyPost_mono m hO o c t (h d)))
    iexact H

end Cert.KernelIdeal.Gen
-- ==== Proof.KernelIdeal.Frame.lean ====
module

public import proofs.«01_k».proof.Proof.KernelIdeal.Points
public import Idealize.ShloMosaic.Lib.Claim

/-! The frame: the program runs, its arguments end unchanged, every counter at zero. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame says nothing of what the output holds. -/
def anyOut (hO : Ok m) (_ : Dev nD) : Outs m hO := fun t => Pipeline.Dat.unnamed (cfg := cfgM m hO) 6 t

abbrev dats (hO : Ok m) := datsOf m hO (anyOut m hO)

/-- The window whose contents the frame leaves open: the output. -/
def forgets0 : Fin 7 → Bool := fun w => w.val == 6

/-- The body's obligation with the output's contents left open. -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body_of m hO (anyOut m hO) c t (fun d => d) iprop(∃ d, owns (c : Thread nD τ) (ms0_6 m hO t) fullShare d)
    (fun d => by iintro H; iexists _; iexact H)) rfl .rfl fun _ => .rfl

set_option backward.isDefEq.respectTransparency.types false in
/-- The launch. -/
theorem run_main (hO : Ok m) : θ_run defs (onTc (τ := τ) (main (F := F))) (s₀ m ρ) (fun r =>
    (Pipeline.RDat.FramePostR ((Pipeline.pin pcfgs fun _ => adm m hO) 0) (fun c => (dats m hO 0 c).toRForget forgets0) tailWrites
      (fun c b => V m c (Proc.devRef .tc b))) r ∧ r.2.sem = fun _ => 0) :=
  Pipeline.θ_run_frameP_around_T_forget (Q' := _) pcfgs (fun _ => adm m hO) (dats m hO) (0 : Fin 1) launch0 defs₀ Variants.none forgets0 tailWrites m ρ main
    (hbody := fun c => (body_obligation m hO c).loose) (hshare := fun c => (dats m hO 0 c).share_full fun _ => rfl)
    (howed := fun _ _ => rfl) (V₀ := V m) (opss := [hostOps1]) tail_sub tail_fresh tail_keep tail_T (hmain := hmain m Variants.none)
    (hA := A_eq m hO _) (hpf := V_pre m) (hΦ := fun _ _ => rfl)

/-- A buffer that is no array of the kernel and that the last stretch does not write is unchanged by the run. -/
theorem kept (c : Dev nD) (b : Ref sig .tc) (hb : b ∈ Pipeline.restRefs sig spec0 \ tailWrites) (hO : Ok m) (r : PUnit × MemSt nD τ sig (Elt F))
    (h : Pipeline.RDat.FramePostR ((Pipeline.pin pcfgs fun _ => adm m hO) 0) (fun c => (dats m hO 0 c).toRForget forgets0) tailWrites
      (fun c b => V m c (Proc.devRef .tc b)) r) : r.2.mem ((c.tc : Thread nD τ).loc b) = V m c (Proc.devRef .tc b) :=
  (h c).2 b hb

/-- An input array is unchanged by the run. -/
theorem staged (c : Dev nD) (w : Fin 7) (hO : Ok m) (hw : ((cfgM m hO).win w).isOut = false) (r : PUnit × MemSt nD τ sig (Elt F))
    (h : Pipeline.RDat.FramePostR ((Pipeline.pin pcfgs fun _ => adm m hO) 0) (fun c => (dats m hO 0 c).toRForget forgets0) tailWrites
      (fun c b => V m c (Proc.devRef .tc b)) r) :
    r.2.mem (((cfgM m hO).spec w).arr.view.loc (c.tc : Thread nD τ)) = V m c (Proc.devRef .tc (Pipeline.arrRef spec0 w)) :=
  (Pipeline.RDat.FramePostR.arr_in h c w hw).trans (A_eq m hO (anyOut m hO) c w)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ?_) (run_main m ρ (ok_tbl m))
  obtain ⟨h1, h2⟩ := h
  refine ⟨fun c => ⟨?_, ?_, ?_, ?_, ?_, ?_, ?_⟩, h2⟩
  · exact (kept m c main_arg0 (by decide) (ok_tbl m) r h1).trans (V_main_arg0 m c)
  · exact (kept m c main_arg1 (by decide) (ok_tbl m) r h1).trans (V_main_arg1 m c)
  · exact (kept m c main_arg2 (by decide) (ok_tbl m) r h1).trans (V_main_arg2 m c)
  · exact (staged m c 2 (ok_tbl m) rfl r h1).trans (V_main_arg3 m c)
  · exact (kept m c main_arg4 (by decide) (ok_tbl m) r h1).trans (V_main_arg4 m c)
  · exact (staged m c 3 (ok_tbl m) rfl r h1).trans (V_main_arg5 m c)
  · exact (kept m c main_arg6 (by decide) (ok_tbl m) r h1).trans (V_main_arg6 m c)

end Cert.KernelIdeal.Gen
-- ==== Proof.KernelIdeal.Rows.lean ====
module

public import proofs.«01_k».proof.Proof.KernelIdeal.Host
public import Idealize.ShloMosaic.Lib.Routing.OpsSet
public import Idealize.ShloMosaic.Lib.ReduceAll

/-! The rows as the kernel finds them: sorted by expert, and gathered in that order. -/

@[expose] public section

set_option maxRecDepth 16384

noncomputable section

namespace Cert.KernelIdeal.Gen

open Idealize.ShloMosaic Idealize.ShloMosaic.TcCoe Idealize.ShloMosaic.Tactic Cert.Grouped

variable {F : FTy → Type} [FloatOps F]

/-! ## A take of rows, over any operand and any words -/

/-- The row numbers as the host hands them to a gather: a negative one has the row count added. -/
def wrapped (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 4096#32))) i)

/-- A row's number as a word. -/
theorem word_row (p : Fin 4096) : (BitVec.ofNat 32 p.val).toNat = p.val := by
  have := p.isLt
  rw [BitVec.toNat_ofNat]; omega

/-- A word that is a row number stays as it is. -/
theorem wrapped_at (i : IVec S4096 32) (q p : Fin 4096) (hi : i (ix1 q) = BitVec.ofNat 32 p.val) :
    wrapped i (ix2 q 0) = BitVec.ofNat 32 p.val := by
  unfold wrapped
  refine (broadcastInDim_apply _ bcast_S4096_S4096x1_0 _ _ (ix1 q) fun a => ?_).trans ?_
  · match a with | ⟨0, _⟩ => rfl
  · show Scalar.select (IntOp.cmpi .slt (i (ix1 q)) 0#32) (IntOp.addi (i (ix1 q)) 4096#32) (i (ix1 q)) = _
    rw [hi]
    exact Routing.wrap_of_lt _ _ (by rw [word_row]; have := p.isLt; omega)

/-- Which row numbers are in range, as the host tests it. -/
def inRange (i : IVec S4096 32) : IVec S4096 1 :=
  Host.reduce IntOp.andi (andi (cmpi .sge (wrapped i) (broadcastInDim S4096x1 ![] bcast_S_S4096x1 (constantI S_ 32 0#32)))
      (cmpi .sle (wrapped i) (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- A row's number passes the range check of the gather. -/
theorem row_in_range (p : Fin 4096) :
    IntOp.andi (IntOp.cmpi .sge (BitVec.ofNat 32 p.val) 0#32) (IntOp.cmpi .sle (BitVec.ofNat 32 p.val) 4095#32) = 1#1 := by
  have h := p.isLt
  have e : (BitVec.ofNat 32 p.val).toInt = p.val := by
    rw [BitVec.toInt_eq_toNat_of_lt (by rw [word_row]; omega), word_row]
  have h1 : IntOp.cmpi .sge (BitVec.ofNat 32 p.val) 0#32 = 1#1 := by
    simp [IntOp.cmpi, BitVec.sle, e]
  have h2 : IntOp.cmpi .sle (BitVec.ofNat 32 p.val) 4095#32 = 1#1 := by
    have h3 : (4095#32 : BitVec 32).toInt = 4095 := by decide
    have h4 : (BitVec.ofNat 32 p.val).sle 4095#32 = true := by
      simp only [BitVec.sle, e, h3, decide_eq_true_eq]; omega
    show BitVec.ofBool ((BitVec.ofNat 32 p.val).sle 4095#32) = 1#1
    rw [h4]; rfl
  rw [h1, h2]; decide

/-- So does every entry of a vector of row numbers. -/
theorem inRange_at (i : IVec S4096 32) (p : Fin 4096 → Fin 4096) (hi : ∀ q, i (ix1 q) = BitVec.ofNat 32 (p q).val) (j : S4096.Idx) :
    inRange i j = 1#1 := by
  unfold inRange
  rw [Host.reduce_eq_foldl]
  refine IntOp.foldl_andi_one _ _ _ rfl fun k _ => ?_
  have hk : k = ix2 (k 0) (0 : Fin 1) := by
    funext d
    match d with
    | ⟨0, _⟩ => rfl
    | ⟨1, _⟩ => exact Subsingleton.elim (α := Fin 1) _ _
  rw [hk]
  show IntOp.andi (IntOp.cmpi .sge (wrapped i (ix2 (k 0) 0)) 0#32) (IntOp.cmpi .sle (wrapped i (ix2 (k 0) 0)) 4095#32) = 1#1
  rw [wrapped_at i (k 0) _ (hi _)]
  exact row_in_range _

/-- The take: the gathered rows where the numbers are in range. -/
def takeRows (x : Vec F S4096x768 .f32) (i : IVec S4096 32) : Vec F S4096x768 .f32 :=
  select (broadcastInDim S4096x768 ![0] bcast_S4096_S4096x768_0 (inRange i))
    (Host.gather gather_S4096x768_S4096x1_S4096x768_1_0_n_n_0_1_1768 x (wrapped i))
    (broadcastInDim S4096x768 ![] bcast_S_S4096x768 (constant S_ .f32 0x7FC00000#32))

/-- Rows taken by a vector of row numbers. -/
theorem takeRows_at (x : Vec F S4096x768 .f32) (i : IVec S4096 32) (p : Fin 4096 → Fin 4096)
    (hi : ∀ q, i (ix1 q) = BitVec.ofNat 32 (p q).val) (q : Fin 4096) (y : Fin 768) : takeRows x i (ix2 q y) = x (ix2 (p q) y) := by
  unfold takeRows
  show Scalar.select (broadcastInDim S4096x768 ![0] bcast_S4096_S4096x768_0 (inRange i) (ix2 q y)) _ _ = _
  have h1 : broadcastInDim S4096x768 ![0] bcast_S4096_S4096x768_0 (inRange i) (ix2 q y) = 1#1 := inRange_at i p hi _
  have h2 : ∀ (a : Fin 4096) (b : Fin 768), (ix2 a b : S4096x768.Idx) = ValueIdx.ix2 a b := fun a b => by
    funext d; match d with | ⟨0, _⟩ => rfl | ⟨1, _⟩ => rfl
  have h3 : (ix2 q (0 : Fin 1) : S4096x1.Idx) = ValueIdx.ix2 q 0 := by
    funext d; match d with | ⟨0, _⟩ => rfl | ⟨1, _⟩ => rfl
  rw [h1, h2, h2]
  have h4 := wrapped_at i q (p q) (hi q)
  rw [h3] at h4
  exact Routing.gather_row gather_S4096x768_S4096x1_S4096x768_1_0_n_n_0_1_1768 rfl rfl rfl rfl rfl x (wrapped i) q y (p q) h4 (by decide)

/-! ## The memory the kernel finds -/

variable (m : (ℓ : Loc nD τ sig) → Buf (Elt F) ℓ)

/-- The expert a row names. -/
abbrev nameOf (c : Dev nD) (r : Fin 4096) : BitVec 32 := (m (c, Proc.devRef .tc main_arg2) : IVec S4096 32) (ix1 r)
/-- A row's expert. -/
def keyOf (c : Dev nD) (r : Fin 4096) : ℕ := (nameOf m c r).toNat

/-- The row at place `q` of the sorted order, and its expert. -/
def permOf (c : Dev nD) (q : Fin 4096) : Fin 4096 := ranked (keyOf m c) q
/-- The expert of the row at a sorted place. -/
def exOf (c : Dev nD) (q : Fin 4096) : ℕ := keyOf m c (permOf m c q)

/-- The memory after the argsort by expert. -/
def VS (c : Dev nD) : Valuation τ sig (Elt F) := StableHlo.after (hostOps0 ++ hostOps0_1) (fun b => m (c, b))

/-- The buffers after the gathers, from those after the sort. -/
theorem VA_eq (c : Dev nD) : VA m c = StableHlo.after (hostOps0_2 ++ (hostOps0_3 ++ hostOps0_4)) (VS m c) := by
  unfold VA VS
  rw [← StableHlo.after_append]
  rfl

/-- The sorting permutation, as the host computes it. -/
theorem vS_v0 (c : Dev nD) : (VS m c (Proc.devRef .tc main_v0) : IVec S4096 32)
    = (Host.sort2 S4096 0 comparator_i32_i32_d0 (m (c, Proc.devRef .tc main_arg2) : IVec S4096 32) (iotaInDim S4096 32 0)).2 := by
  unfold VS
  after_reads_simp
  rfl
/-- Argument 0 is still as given. -/
theorem vS_arg0 (c : Dev nD) : VS m c (Proc.devRef .tc main_arg0) = m (c, Proc.devRef .tc main_arg0) := by
  unfold VS
  after_reads_simp
/-- Argument 1 is still as given. -/
theorem vS_arg1 (c : Dev nD) : VS m c (Proc.devRef .tc main_arg1) = m (c, Proc.devRef .tc main_arg1) := by
  unfold VS
  after_reads_simp
/-- Argument 2 is still as given. -/
theorem vS_arg2 (c : Dev nD) : VS m c (Proc.devRef .tc main_arg2) = m (c, Proc.devRef .tc main_arg2) := by
  unfold VS
  after_reads_simp
/-- The gathers leave the sorting permutation alone. -/
theorem vA_v0_eq (c : Dev nD) : VA m c (Proc.devRef .tc main_v0) = VS m c (Proc.devRef .tc main_v0) := by
  rw [VA_eq]
  after_reads_simp

/-- The signed comparison of two small words is that of their numbers. -/
theorem slt_small (x y : BitVec 32) (hx : x.toNat < 8) (hy : y.toNat < 8) : (IntOp.cmpi .slt x y == 1#1) = decide (x.toNat < y.toNat) := by
  have ex : x.toInt = x.toNat := BitVec.toInt_eq_toNat_of_lt (by omega)
  have ey : y.toInt = y.toNat := BitVec.toInt_eq_toNat_of_lt (by omega)
  by_cases h : x.toNat < y.toNat
  · simp [IntOp.cmpi, BitVec.slt, ex, ey, h]
  · simp [IntOp.cmpi, BitVec.slt, ex, ey, h]

/-- Row numbers sorted along with small keys. -/
theorem sort_rows (x : IVec S4096 32) (hx : ∀ r : Fin 4096, (x (ix1 r)).toNat < 8) (q : Fin 4096) :
    (Host.sort2 S4096 0 comparator_i32_i32_d0 x (iotaInDim S4096 32 0)).2 (ix1 q)
      = BitVec.ofNat 32 (ranked (fun r : Fin 4096 => (x (ix1 r)).toNat) q).val :=
  (sort2_snd_apply (n := 4096) comparator_i32_i32_d0 x (iotaInDim S4096 32 0) (fun r : Fin 4096 => (x (ix1 r)).toNat)
    (fun a b => slt_small _ _ (hx a) (hx b)) q).trans rfl

/-- The two takes, from any memory. -/
theorem read_v1 (σ : Valuation τ sig (Elt F)) :
    (StableHlo.after (hostOps0_2 ++ (hostOps0_3 ++ hostOps0_4)) σ (Proc.devRef .tc main_v1) : Vec F S4096x768 .f32)
      = takeRows (σ (Proc.devRef .tc main_arg0) : Vec F S4096x768 .f32) (σ (Proc.devRef .tc main_v0) : IVec S4096 32) := by
  after_reads_simp
  rfl
/-- The gather of the target rows. -/
theorem read_v2 (σ : Valuation τ sig (Elt F)) :
    (StableHlo.after (hostOps0_2 ++ (hostOps0_3 ++ hostOps0_4)) σ (Proc.devRef .tc main_v2) : Vec F S4096x768 .f32)
      = takeRows (σ (Proc.devRef .tc main_arg1) : Vec F S4096x768 .f32) (σ (Proc.devRef .tc main_v0) : IVec S4096 32) := by
  after_reads_simp
  rfl

section
variable (hk : ∀ c r, keyOf m c r < 8)
include hk

/-- The sorting permutation after the sort. -/
theorem vS_perm (c : Dev nD) (q : Fin 4096) : (VS m c (Proc.devRef .tc main_v0) : IVec S4096 32) (ix1 q) = BitVec.ofNat 32 (permOf m c q).val := by
  rw [vS_v0]
  exact sort_rows _ (fun r => hk c r) q

/-- The sorting permutation after the gathers. -/
theorem vA_v0 (c : Dev nD) (q : Fin 4096) : (VA m c (Proc.devRef .tc main_v0) : IVec S4096 32) (ix1 q) = BitVec.ofNat 32 (permOf m c q).val := by
  rw [vA_v0_eq]
  exact vS_perm m hk c q

/-- The source rows in sorted order. -/
theorem vA_v1 (c : Dev nD) (q : Fin 4096) (y : Fin 768) : (VA m c (Proc.devRef .tc main_v1) : Vec F S4096x768 .f32) (ix2 q y)
    = (m (c, Proc.devRef .tc main_arg0) : Vec F S4096x768 .f32) (ix2 (permOf m c q) y) := by
  have h : (VA m c (Proc.devRef .tc main_v1) : Vec F S4096x768 .f32)
      = takeRows (VS m c (Proc.devRef .tc main_arg0) : Vec F S4096x768 .f32) (VS m c (Proc.devRef .tc main_v0) : IVec S4096 32) := by
    rw [VA_eq]
    exact read_v1 (VS m c)
  rw [h, vS_arg0]
  exact takeRows_at _ _ (permOf m c) (vS_perm m hk c) q y

/-- The target rows in sorted order. -/
theorem vA_v2 (c : Dev nD) (q : Fin 4096) (y : Fin 768) : (VA m c (Proc.devRef .tc main_v2) : Vec F S4096x768 .f32) (ix2 q y)
    = (m (c, Proc.devRef .tc main_arg1) : Vec F S4096x768 .f32) (ix2 (permOf m c q) y) := by
  have h : (VA m c (Proc.devRef .tc main_v2) : Vec F S4096x768 .f32)
      = takeRows (VS m c (Proc.devRef .tc main_arg1) : Vec F S4096x768 .f32) (VS m c (Proc.devRef .tc main_v0) : IVec S4096 32) := by
    rw [VA_eq]
    exact read_v2 (VS m c)
  rw [h, vS_arg1]
  exact takeRows_at _ _ (permOf m c) (vS_perm m hk c) q y

end

end Cert.KernelIdeal.Gen
-- ==== Proof.Groups.lean ====
module

public import proofs.«01_k».proof.Proof.Order
public import Idealize.ShloMosaic.Lib.Routing.Ops

/-! Where the groups of a sorted list begin: places and counts. -/

@[expose] public section

namespace Cert.Grouped

open Idealize.ShloMosaic

variable {n : ℕ}

/-- How many entries have a key below `e`. -/
def below (key : Fin n → ℕ) (e : ℕ) : ℕ := (Finset.univ.filter fun r => key r < e).card

/-- A group bound is at most the number of rows. -/
theorem below_le (key : Fin n → ℕ) (e : ℕ) : below key e ≤ n := by
  unfold below
  exact (Finset.card_le_univ _).trans (by rw [Fintype.card_fin])

/-- No row is below expert 0. -/
theorem below_zero (key : Fin n → ℕ) : below key 0 = 0 := by
  unfold below
  rw [Finset.card_eq_zero, Finset.filter_eq_empty_iff]
  exact fun _ _ h => Nat.not_lt_zero _ h

/-- A place comes before the end of the keys below `e` exactly when the key ranked there is below `e`. -/
theorem lt_below_iff (key : Fin n → ℕ) (e : ℕ) (q : Fin n) : q.val < below key e ↔ key (ranked key q) < e := by
  have hc : below key e = Nat.count (fun a => ∃ h : a < n, key (ranked key ⟨a, h⟩) < e) n := by
    rw [← Routing.card_filter_fin]
    unfold below
    refine (Finset.card_bij (fun (q : Fin n) _ => ranked key q) ?_ ?_ ?_).symm
    · intro a ha
      rw [Finset.mem_filter] at ha ⊢
      obtain ⟨h1, h2⟩ := ha.2
      exact ⟨Finset.mem_univ _, h2⟩
    · intro a _ b _ h
      exact ranked_injective key h
    · intro b hb
      obtain ⟨a, rfl⟩ := ranked_surjective key b
      rw [Finset.mem_filter] at hb
      exact ⟨a, by rw [Finset.mem_filter]; exact ⟨Finset.mem_univ _, a.isLt, hb.2⟩, rfl⟩
  rw [hc, ← Routing.lt_count_iff (N := n) (Q := fun a => ∃ h : a < n, key (ranked key ⟨a, h⟩) < e) ?_ q.isLt]
  · exact ⟨fun ⟨_, h⟩ => h, fun h => ⟨q.isLt, h⟩⟩
  · rintro a b hab hb ⟨h1, h2⟩
    exact ⟨by omega, lt_of_le_of_lt (ranked_mono key (i := ⟨a, by omega⟩) (j := ⟨b, hb⟩) hab) h2⟩

/-- A function on the first `n` numbers, on all of them. -/
def onNat (key : Fin n → ℕ) (a : ℕ) : ℕ := if h : a < n then key ⟨a, h⟩ else 0

/-- The extension of the keys to all numbers agrees with the keys on the rows. -/
theorem onNat_val (key : Fin n → ℕ) (q : Fin n) : onNat key q.val = key q := by
  unfold onNat
  rw [dif_pos q.isLt]

/-- The rows below the next expert are those at this expert or before. -/
theorem below_succ (key : Fin n → ℕ) (e : ℕ) : below key (e + 1) = Nat.count (fun a => onNat key a ≤ e) n := by
  rw [← Routing.card_filter_fin]
  unfold below
  refine congrArg Finset.card (Finset.filter_congr fun q _ => ?_)
  rw [onNat_val]
  omega

/-- Group `e` reaches into tile `t` exactly when some place of the tile has expert `e`. -/
theorem meets_iff (key : Fin 4096 → ℕ) (t e : ℕ) (ht : t < 16) :
    max (below key e) (t * 256) < min (below key (e + 1)) ((t + 1) * 256)
      ↔ ∃ q : Fin 4096, q.val / 256 = t ∧ key (ranked key q) = e := by
  have hle := below_le key (e + 1)
  constructor
  · intro h
    obtain ⟨q, hq⟩ : ∃ q : Fin 4096, q.val = max (below key e) (t * 256) := ⟨⟨_, by omega⟩, rfl⟩
    refine ⟨q, by omega, ?_⟩
    have h3 := (lt_below_iff key (e + 1) q).mp (by omega)
    have h4 : ¬ key (ranked key q) < e := fun h => by
      have := (lt_below_iff key e q).mpr h
      omega
    omega
  · rintro ⟨q, h1, h2⟩
    have h3 := (lt_below_iff key (e + 1) q).mpr (by omega)
    have h4 : ¬ q.val < below key e := fun h => by
      have := (lt_below_iff key e q).mp h
      omega
    omega

end Cert.Grouped

end
-- ==== Proof.Schedule.lean ====
module

public import proofs.«01_k».proof.Proof.Order

/-! The schedule of (tile, expert) pairs: the rows, sorted by expert, are cut in 16 tiles of 256; a pair meets when some row of
the tile belongs to the expert; the schedule lists the pairs that meet, in order, in 23 places. -/

@[expose] public section

namespace Cert.Grouped

/-- Pair `p` meets: a row of tile `p / 8` has expert `p % 8`. -/
def Meets (ex : Fin 4096 → ℕ) (p : Fin 128) : Prop := ∃ q : Fin 4096, q.val / 256 = p.val / 8 ∧ ex q = p.val % 8

/-- Pairs that meet are sorted in front. -/
def bitKey (bit : Fin 128 → BitVec 1) (p : Fin 128) : ℕ := 1 - (bit p).toNat

/-- The pair at place `w` of the schedule, given which pairs meet. -/
def pairAt (bit : Fin 128 → BitVec 1) (w : Fin 23) : Fin 128 := ranked (bitKey bit) (w.castLE (by decide))

/-- Its tile and its expert; a place without a meeting pair is put on the last ones. -/
def tileAt (bit : Fin 128 → BitVec 1) (w : Fin 23) : ℕ := if bit (pairAt bit w) = 1#1 then (pairAt bit w).val / 8 else 15
/-- The expert of a schedule entry: its pair's, or the last one at padding. -/
def expertAt (bit : Fin 128 → BitVec 1) (w : Fin 23) : ℕ := if bit (pairAt bit w) = 1#1 then (pairAt bit w).val % 8 else 7

section
variable {ex : Fin 4096 → ℕ} {bit : Fin 128 → BitVec 1}

/-- A pair is sorted under 0 where its bit is set and under 1 where it is not. -/
theorem bitKey_eq (p : Fin 128) : (bit p = 1#1 ∧ bitKey bit p = 0) ∨ (bit p ≠ 1#1 ∧ bitKey bit p = 1) := by
  unfold bitKey
  generalize bit p = x
  revert x; decide

/-- Along the places: a pair before a meeting pair meets and has a smaller number. -/
theorem before_meeting {r r' : Fin 128} (h : r < r') (hm : bit (ranked (bitKey bit) r') = 1#1) :
    bit (ranked (bitKey bit) r) = 1#1
      ∧ ranked (bitKey bit) r < ranked (bitKey bit) r' := by
  have hl := ranked_lex (bitKey bit) h
  have h0 := bitKey_eq (bit := bit) (ranked (bitKey bit) r')
  have h1 := bitKey_eq (bit := bit) (ranked (bitKey bit) r)
  generalize ranked (bitKey bit) r = a at *
  generalize ranked (bitKey bit) r' = b at *
  rcases h0 with h0 | h0
  · rcases h1 with h1 | h1
    · refine ⟨h1.1, ?_⟩
      rcases hl with hl | hl
      · exact absurd hl (by rw [h0.2, h1.2]; decide)
      · exact hl.2
    · rcases hl with hl | hl
      · exact absurd hl (by rw [h0.2, h1.2]; decide)
      · exact absurd hl.1 (by rw [h0.2, h1.2]; decide)
  · exact absurd hm h0.1

/-- The order of two pairs is the order of their numbers. -/
theorem place_lt_nat {w w' : Fin 23} (h : pairAt bit w < pairAt bit w') : (pairAt bit w).val < (pairAt bit w').val := h

/-- An entry before a listed pair is listed too, with a smaller pair. -/
theorem place_before {w w' : Fin 23} (h : w < w') (hm : bit (pairAt bit w') = 1#1) :
    bit (pairAt bit w) = 1#1 ∧ pairAt bit w < pairAt bit w' :=
  before_meeting (r := w.castLE (by decide)) (r' := w'.castLE (by decide)) h hm

/-- Of two listed pairs the smaller one stands first. -/
theorem place_lt {w w' : Fin 23} (hm : bit (pairAt bit w) = 1#1) (h : pairAt bit w < pairAt bit w') (hm' : bit (pairAt bit w') = 1#1) : w < w' := by
  rcases lt_trichotomy w w' with h1 | rfl | h1
  · exact h1
  · exact absurd h (lt_irrefl _)
  · exact absurd (place_before h1 hm).2 (not_lt.mpr h.le)

attribute [local irreducible] pairAt

variable (hmono : Monotone ex) (hlt : ∀ q, ex q < 8) (hbit : ∀ p, bit p = 1#1 ↔ Meets ex p)
include hmono hlt hbit

/-- Meeting pairs climb: from one to a later one, tile plus expert grows. -/
theorem climb {p p' : Fin 128} (hp : bit p = 1#1) (hp' : bit p' = 1#1) (h : p < p') : p.val / 8 + p.val % 8 < p'.val / 8 + p'.val % 8 := by
  obtain ⟨q, h1, h2⟩ := (hbit p).mp hp
  obtain ⟨q', h1', h2'⟩ := (hbit p').mp hp'
  have hv : p.val < p'.val := h
  by_cases ht : p.val / 8 = p'.val / 8
  · omega
  · have : q ≤ q' := by
      show q.val ≤ q'.val
      omega
    have := hmono this
    omega

omit hmono hlt hbit in
/-- What grows along the places is at least the place's number. -/
theorem place_le (f : Fin 128 → Fin 128) (good : Fin 128 → Prop) (g : Fin 128 → ℕ)
    (h : ∀ r r' : Fin 128, r < r' → good (f r') → good (f r) ∧ g (f r) < g (f r')) :
    ∀ (n : ℕ) (r : Fin 128), r.val = n → good (f r) → n ≤ g (f r) := by
  intro n
  induction n with
  | zero => intro _ _ _; exact Nat.zero_le _
  | succ n ih =>
    intro r hr hg
    have hn : n < 128 := by have := r.isLt; omega
    have h1 := h ⟨n, hn⟩ r (by rw [Fin.lt_def]; show n < r.val; omega) hg
    have h2 := ih ⟨n, hn⟩ rfl h1.1
    omega

/-- Every meeting pair has a place in the schedule. -/
theorem listed (p : Fin 128) (hp : bit p = 1#1) : ∃ w : Fin 23, pairAt bit w = p := by
  obtain ⟨r, hr⟩ := ranked_surjective (bitKey bit) p
  have h := place_le (ranked (bitKey bit)) (fun p => bit p = 1#1) (fun p => p.val / 8 + p.val % 8)
    (fun r r' hlt' hg => ⟨(before_meeting hlt' hg).1, climb hmono hlt hbit (before_meeting hlt' hg).1 hg (before_meeting hlt' hg).2⟩)
    r.val r rfl (by rw [hr]; exact hp)
  rw [hr] at h
  have h1 := p.isLt
  have h2 : r.val < 23 := by
    have h3 : r.val ≤ p.val / 8 + p.val % 8 := h
    omega
  refine ⟨⟨r.val, h2⟩, ?_⟩
  rw [← hr]
  unfold pairAt
  rfl

/-- The pair of a row's own tile and expert has a place. -/
theorem listed_row (q : Fin 4096) : ∃ w : Fin 23, bit (pairAt bit w) = 1#1 ∧ (pairAt bit w).val = q.val / 256 * 8 + ex q := by
  have h1 := hlt q
  have h2 := q.isLt
  have h3 : q.val / 256 * 8 + ex q < 128 := by omega
  have hm : bit ⟨q.val / 256 * 8 + ex q, h3⟩ = 1#1 := (hbit _).mpr ⟨q, by show _ = (q.val / 256 * 8 + ex q) / 8; omega, by show _ = (q.val / 256 * 8 + ex q) % 8; omega⟩
  obtain ⟨w, hw⟩ := listed hmono hlt hbit _ hm
  exact ⟨w, by rw [hw]; exact hm, by rw [hw]⟩

/-- Every tile is some place's. -/
theorem tile_listed (k : ℕ) (hk : k < 16) : ∃ w : Fin 23, tileAt bit w = k := by
  obtain ⟨w, h1, h2⟩ := listed_row hmono hlt hbit ⟨k * 256, by omega⟩
  have := hlt ⟨k * 256, by omega⟩
  refine ⟨w, ?_⟩
  unfold tileAt
  rw [if_pos h1, h2]
  show (k * 256 / 256 * 8 + _) / 8 = k
  omega

/-- A place without a meeting pair comes after one of the same tile, -/
theorem idle_pos {w : Fin 23} (hw : bit (pairAt bit w) ≠ 1#1) : 0 < w.val ∧ ∀ h : w.val - 1 < 23, tileAt bit ⟨w.val - 1, h⟩ = 15
    ∧ ∀ q : Fin 4096, q.val / 256 = 15 → ex q ≤ expertAt bit ⟨w.val - 1, h⟩ := by
  obtain ⟨w0, h1, h2⟩ := listed_row hmono hlt hbit ⟨4095, by omega⟩
  have hlt0 := hlt ⟨4095, by omega⟩
  have hw0 : w0 < w := by
    rcases lt_trichotomy w0 w with h | rfl | h
    · exact h
    · exact absurd h1 hw
    · exact absurd (place_before h h1).1 hw
  have hw0' : w0.val < w.val := hw0
  refine ⟨by omega, fun h => ?_⟩
  have hq : ∀ q : Fin 4096, ex q ≤ ex ⟨4095, by omega⟩ := fun q => hmono (by show q.val ≤ 4095; omega)
  by_cases hm : bit (pairAt bit ⟨w.val - 1, h⟩) = 1#1
  · have hle : (pairAt bit w0).val ≤ (pairAt bit ⟨w.val - 1, h⟩).val := by
      rcases lt_or_eq_of_le (show w0.val ≤ w.val - 1 by omega) with h' | h'
      · exact le_of_lt (place_before (w' := ⟨w.val - 1, h⟩) h' hm).2
      · have : w0 = ⟨w.val - 1, h⟩ := Fin.ext h'
        rw [this]
    have := (pairAt bit ⟨w.val - 1, h⟩).isLt
    have h3 : (pairAt bit w0).val = 4095 / 256 * 8 + ex ⟨4095, by omega⟩ := h2
    unfold tileAt expertAt
    rw [if_pos hm, if_pos hm]
    refine ⟨by omega, fun q _ => ?_⟩
    have := hq q
    omega
  · unfold tileAt expertAt
    rw [if_neg hm, if_neg hm]
    exact ⟨rfl, fun q _ => by have := hlt q; omega⟩

/-- No row's pair lies strictly between two places that follow each other. -/
theorem none_between {w : Fin 23} (hw : bit (pairAt bit w) = 1#1) (q : Fin 4096)
    (h0 : ∀ h : 0 < w.val, (pairAt bit ⟨w.val - 1, by omega⟩).val < q.val / 256 * 8 + ex q) :
    (pairAt bit w).val ≤ q.val / 256 * 8 + ex q := by
  obtain ⟨w0, h1, h2⟩ := listed_row hmono hlt hbit q
  by_contra hc
  have hlt' : w0 < w := place_lt h1 (by rw [Fin.lt_def]; omega) hw
  have hlt'' : w0.val < w.val := hlt'
  have h3 := h0 (by omega)
  rcases lt_or_eq_of_le (show w0.val ≤ w.val - 1 by omega) with h' | h'
  · have := (place_before (w := w0) (w' := ⟨w.val - 1, by omega⟩) h' (place_before (w := ⟨w.val - 1, by omega⟩) (w' := w) (by show w.val - 1 < w.val; omega) hw).1).2
    have this' : (pairAt bit w0).val < (pairAt bit ⟨w.val - 1, by omega⟩).val := this
    omega
  · have : w0 = ⟨w.val - 1, by omega⟩ := Fin.ext h'
    rw [this] at h2
    omega

/-- A meeting place that follows one of its own tile: the rows up to its expert are those up to the one before, and its own; the
one before meets too and has a smaller expert. -/
theorem rows_step {w : Fin 23} (hw : bit (pairAt bit w) = 1#1) (h0 : 0 < w.val) (ht : tileAt bit ⟨w.val - 1, by omega⟩ = tileAt bit w)
    (q : Fin 4096) (hq : q.val / 256 = tileAt bit w) :
    expertAt bit ⟨w.val - 1, by omega⟩ < expertAt bit w ∧ (ex q ≤ expertAt bit w ↔ ex q ≤ expertAt bit ⟨w.val - 1, by omega⟩ ∨ ex q = expertAt bit w) := by
  have hb := place_before (w := ⟨w.val - 1, by omega⟩) (w' := w) (by show w.val - 1 < w.val; omega) hw
  have hb2 : (pairAt bit ⟨w.val - 1, by omega⟩).val < (pairAt bit w).val := hb.2
  have hn := none_between hmono hlt hbit hw q
  unfold tileAt at ht hq
  unfold expertAt
  rw [if_pos hw] at hq ht
  rw [if_pos hb.1] at ht
  rw [if_pos hw, if_pos hb.1]
  have := hlt q
  refine ⟨by omega, ⟨fun h => ?_, fun h => by omega⟩⟩
  by_contra hc
  push Not at hc
  have := hn (fun _ => by omega)
  omega

/-- A meeting place that starts its tile: no row of the tile has a smaller expert. -/
theorem rows_start {w : Fin 23} (hw : bit (pairAt bit w) = 1#1) (h0 : ∀ h : 0 < w.val, tileAt bit w ≠ tileAt bit ⟨w.val - 1, by omega⟩)
    (q : Fin 4096) (hq : q.val / 256 = tileAt bit w) : expertAt bit w ≤ ex q := by
  have hn := none_between hmono hlt hbit hw q
  have h1 : ∀ h : 0 < w.val, (pairAt bit ⟨w.val - 1, by omega⟩).val / 8 < (pairAt bit w).val / 8 := by
    intro h
    have hb := place_before (w := ⟨w.val - 1, by omega⟩) (w' := w) (by show w.val - 1 < w.val; omega) hw
    have hb2 : (pairAt bit ⟨w.val - 1, by omega⟩).val < (pairAt bit w).val := hb.2
    have := h0 h
    unfold tileAt at this
    rw [if_pos hw, if_pos hb.1] at this
    omega
  unfold tileAt at hq
  unfold expertAt
  rw [if_pos hw] at hq ⊢
  have := hlt q
  have := hn (fun h => by have := h1 h; omega)
  omega

/-- At the last place of a tile every row of the tile is reached. -/
theorem rows_last {w : Fin 23} (h0 : ∀ h : w.val + 1 < 23, tileAt bit ⟨w.val + 1, h⟩ ≠ tileAt bit w)
    (q : Fin 4096) (hq : q.val / 256 = tileAt bit w) : ex q ≤ expertAt bit w := by
  by_cases hw : bit (pairAt bit w) = 1#1
  · by_contra hc
    obtain ⟨w0, h1, h2⟩ := listed_row hmono hlt hbit q
    have hq8 := hlt q
    have hc' := hc
    have hq' := hq
    unfold expertAt at hc'
    unfold tileAt at hq'
    rw [if_pos hw] at hc' hq'
    have hlt' : w < w0 := place_lt hw (by show (pairAt bit w).val < (pairAt bit w0).val; omega) h1
    have hlt'' : w.val < w0.val := hlt'
    have h23 : w.val + 1 < 23 := by have := w0.isLt; omega
    refine h0 h23 ?_
    have hb := place_before (bit := bit) (w := w) (w' := ⟨w.val + 1, h23⟩) (by show w.val < w.val + 1; omega)
    have hm1 : bit (pairAt bit ⟨w.val + 1, h23⟩) = 1#1 ∧ (pairAt bit ⟨w.val + 1, h23⟩).val ≤ (pairAt bit w0).val := by
      rcases lt_or_eq_of_le (show w.val + 1 ≤ w0.val by omega) with h' | h'
      · have := place_before (w := ⟨w.val + 1, h23⟩) (w' := w0) h' h1
        exact ⟨this.1, le_of_lt this.2⟩
      · have : (⟨w.val + 1, h23⟩ : Fin 23) = w0 := Fin.ext h'
        rw [this]; exact ⟨h1, le_rfl⟩
    have h4 := (hb hm1.1).2
    have h4' : (pairAt bit w).val < (pairAt bit ⟨w.val + 1, h23⟩).val := h4
    have h5 := hm1.2
    unfold tileAt
    rw [if_pos hm1.1, if_pos hw]
    omega
  · unfold expertAt
    rw [if_neg hw]
    have := hlt q
    omega

end

end Cert.Grouped

end
-- ==== Proof.KernelIdeal.Offsets.lean ====
module

public import proofs.«01_k».proof.Proof.KernelIdeal.Rows
public import proofs.«01_k».proof.Proof.Groups
public import proofs.«01_k».proof.Proof.Schedule
public import Idealize.ShloMosaic.Lib.WordArith
public import Idealize.ShloMosaic.Lib.WordCmp

/-! The group offsets the kernel finds, and which (tile, expert) pairs meet. -/

@[expose] public section

set_option maxRecDepth 16384

noncomputable section

namespace Cert.KernelIdeal.Gen

open Idealize.ShloMosaic Idealize.ShloMosaic.TcCoe Idealize.ShloMosaic.Tactic Cert.Grouped

variable {F : FTy → Type} [FloatOps F]

/-- A small number as a word. -/
theorem small_word (a : ℕ) (h : a ≤ 8192) : (BitVec.ofNat 32 a).toNat = a := by
  rw [BitVec.toNat_ofNat]; omega

/-! ## The counts, the running sum and the table of offsets, over any words -/

/-- The two spellings of a place in a vector. -/
theorem ix1_eq {k : ℕ} (a : Fin k) : (ix1 a : (⟨1, ![k]⟩ : Shape).Idx) = ValueIdx.ix1 a := by
  funext d; match d with | ⟨0, _⟩ => rfl
/-- The two spellings of a place in a table. -/
theorem ix2_eq {k l : ℕ} (a : Fin k) (b : Fin l) : (ix2 a b : (⟨2, ![k, l]⟩ : Shape).Idx) = ValueIdx.ix2 a b := by
  funext d; match d with | ⟨0, _⟩ => rfl | ⟨1, _⟩ => rfl

/-- How many rows name each expert. -/
theorem counts_at (x : IVec S4096 32) (hx : ∀ r : Fin 4096, (x (ix1 r)).toNat < 8) (e : Fin 8) :
    Host.reduce IntOp.addi (extui 32 (cmpi .eq (broadcastInDim S8x4096 ![0, 1] bcast_S1x4096_S8x4096_0_1 (broadcastInDim S1x4096 ![1] bcast_S4096_S1x4096_1 x))
        (broadcastInDim S8x4096 ![0, 1] bcast_S8x1_S8x4096_0_1 (broadcastInDim S8x1 ![0] bcast_S8_S8x1_0 (iotaInDim S8 32 0)))) natLt_1_32)
      (constantI S_ 32 0#32) reducesTo_S8x4096_S8_d1 h_S_ (ix1 e)
      = BitVec.ofNat 32 (Nat.count (fun a => onNat (fun r : Fin 4096 => (x (ix1 r)).toNat) a = e.val) 4096) := by
  rw [ix1_eq]
  refine Routing.reduce_count (by decide) _ natLt_1_32 reducesTo_S8x4096_S8_d1 h_S_ e _ fun q => ?_
  rw [onNat_val]
  refine StableHlo.Predicate.cmpi_eq_iff.trans ?_
  rw [Routing.bcCols, Routing.bcRows, ← ix1_eq]
  show x (ix1 q) = BitVec.ofNat 32 e.val ↔ _
  have he := e.isLt
  have h := hx q
  constructor
  · intro h; rw [h, BitVec.toNat_ofNat]; omega
  · intro h
    apply BitVec.eq_of_toNat_eq
    rw [h, BitVec.toNat_ofNat]; omega

/-- The running sum of the counts. -/
theorem sums_at (y : IVec S8 32) (key : Fin 4096 → ℕ) (hy : ∀ e : Fin 8, y (ix1 e) = BitVec.ofNat 32 (Nat.count (fun a => onNat key a = e.val) 4096)) (e : Fin 8) :
    Host.reduceWindow IntOp.addi ![8] ![1] ![7] ![0] y (broadcastInDim S_ ![] bcast_S_S_ (constantI S_ 32 0#32)) reduceWindows_S8_S8_w8s1p7_0 h_S_ (ix1 e)
      = BitVec.ofNat 32 (below key (e.val + 1)) := by
  rw [below_succ, ← Routing.sum_count_eq, ix1_eq]
  exact Routing.cumsum1 (N := 8) (Nm1 := 7) rfl y _ (fun i => by rw [← ix1_eq]; exact hy i) _ rfl _ _ e

/-- A leading zero in front of the sums. -/
theorem offsets_at (a : IVec S1 32) (b : IVec S8 32) (key : Fin 4096 → ℕ) (ha : a = fun _ => 0#32)
    (hb : ∀ e : Fin 8, b (ix1 e) = BitVec.ofNat 32 (below key (e.val + 1))) (e : Fin 9) :
    concatenate S9 0 [⟨S1, a⟩, ⟨S8, b⟩] concatenates_S1_S8_S9_d0 (ix1 e) = BitVec.ofNat 32 (below key e.val) := by
  have h : concatenate S9 0 [⟨S1, a⟩, ⟨S8, b⟩] concatenates_S1_S8_S9_d0 (ix1 e)
      = if h : e.val = 0 then a (ix1 (0 : Fin 1)) else b (ix1 (⟨e.val - 1, by have := e.isLt; omega⟩ : Fin 8)) := by
    pointwise
    by_cases h0 : e.val = 0
    · rw [dif_pos (by omega), dif_pos h0]
      exact congrArg a (congrArg ix1 (Fin.ext h0))
    · rw [dif_neg (by omega), dif_neg h0]
  rw [h]
  split
  · next h0 => rw [ha, h0, below_zero]
  · next h0 =>
    rw [hb]
    refine congrArg (fun k => BitVec.ofNat 32 (below key k)) ?_
    show e.val - 1 + 1 = e.val
    omega

/-- The test of a pair, over any bounds. -/
theorem meet_word (t a b : ℕ) (ht : t < 16) (ha : a ≤ 4096) (hb : b ≤ 4096) :
    IntOp.cmpi .sgt (IntOp.minsi (BitVec.ofNat 32 b) (IntOp.muli (IntOp.addi (BitVec.ofNat 32 t) 1#32) 256#32))
        (IntOp.maxsi (BitVec.ofNat 32 a) (IntOp.muli (BitVec.ofNat 32 t) 256#32)) = 1#1
      ↔ max a (t * 256) < min b ((t + 1) * 256) := by
  have h1 : IntOp.muli (BitVec.ofNat 32 t) 256#32 = BitVec.ofNat 32 (t * 256) := by
    show BitVec.ofNat 32 t * BitVec.ofNat 32 256 = _
    rw [← BitVec.ofNat_mul]
  have h2 : IntOp.muli (IntOp.addi (BitVec.ofNat 32 t) 1#32) 256#32 = BitVec.ofNat 32 ((t + 1) * 256) := by
    show (BitVec.ofNat 32 t + BitVec.ofNat 32 1) * BitVec.ofNat 32 256 = _
    rw [← BitVec.ofNat_add, ← BitVec.ofNat_mul]
  have e : ∀ k : ℕ, k ≤ 8192 → (BitVec.ofNat 32 k).toInt = k := fun k hk => by
    rw [BitVec.toInt_eq_toNat_of_lt (by rw [small_word _ hk]; omega), small_word _ hk]
  have h3 : IntOp.maxsi (BitVec.ofNat 32 a) (BitVec.ofNat 32 (t * 256)) = BitVec.ofNat 32 (max a (t * 256)) := by
    unfold IntOp.maxsi
    have hs : (BitVec.ofNat 32 (t * 256)).slt (BitVec.ofNat 32 a) = decide (t * 256 < a) := by
      simp only [BitVec.slt, e a (by omega), e (t * 256) (by omega), Nat.cast_lt, Int.ofNat_lt]
    rcases Nat.lt_or_ge (t * 256) a with h | h
    · simp [hs, h, Nat.max_eq_left h.le]
    · simp [hs, Nat.not_lt.mpr h, Nat.max_eq_right h]
  have h4 : IntOp.minsi (BitVec.ofNat 32 b) (BitVec.ofNat 32 ((t + 1) * 256)) = BitVec.ofNat 32 (min b ((t + 1) * 256)) := by
    unfold IntOp.minsi
    have hs : (BitVec.ofNat 32 b).slt (BitVec.ofNat 32 ((t + 1) * 256)) = decide (b < (t + 1) * 256) := by
      simp only [BitVec.slt, e b (by omega), e ((t + 1) * 256) (by omega), Nat.cast_lt, Int.ofNat_lt]
    rcases Nat.lt_or_ge b ((t + 1) * 256) with h | h
    · simp [hs, h, Nat.min_eq_left h.le]
    · simp [hs, Nat.not_lt.mpr h, Nat.min_eq_right h]
  rw [h1, h2, h3, h4]
  exact WordCmp.cmpi_sgt_ofNat_eq_one_iff (by omega) (by omega)

/-- The table of tests, flattened, from any offsets. -/
def meetTable (o : IVec S9 32) : IVec S128 1 :=
  shapeCast S128 (cmpi .sgt
    (minsi (broadcastInDim S16x8 ![0, 1] bcast_S1x8_S16x8_0_1 (broadcastInDim S1x8 ![1] bcast_S8_S1x8_1 (extractStridedSlice S8 ![1] o slices_S9_S8_1)))
      (broadcastInDim S16x8 ![0, 1] bcast_S16x1_S16x8_0_1 (muli (addi (broadcastInDim S16x1 ![0] bcast_S16_S16x1_0 (iotaInDim S16 32 0))
        (broadcastInDim S16x1 ![] bcast_S_S16x1 (constantI S_ 32 1#32))) (broadcastInDim S16x1 ![] bcast_S_S16x1 (constantI S_ 32 256#32)))))
    (maxsi (broadcastInDim S16x8 ![0, 1] bcast_S1x8_S16x8_0_1 (broadcastInDim S1x8 ![1] bcast_S8_S1x8_1 (extractStridedSlice S8 ![0] o slices_S9_S8_0)))
      (broadcastInDim S16x8 ![0, 1] bcast_S16x1_S16x8_0_1 (muli (broadcastInDim S16x1 ![0] bcast_S16_S16x1_0 (iotaInDim S16 32 0))
        (broadcastInDim S16x1 ![] bcast_S_S16x1 (constantI S_ 32 256#32)))))) shapeCasts_S16x8_S128

/-- A column spread over eight columns. -/
theorem column16 (x : IVec S16x1 32) (t : Fin 16) (e : Fin 8) :
    broadcastInDim S16x8 ![0, 1] bcast_S16x1_S16x8_0_1 x (ValueIdx.ix2 t e) = x (ValueIdx.ix2 t (0 : Fin 1)) := by
  refine broadcastInDim_apply _ bcast_S16x1_S16x8_0_1 _ _ _ fun a => ?_
  match a with
  | ⟨0, _⟩ => rfl
  | ⟨1, _⟩ => rfl

/-- The table of bits at a pair: the pair's tile and group overlap. -/
theorem meetTable_at (o : IVec S9 32) (p : Fin 128) : meetTable o (ix1 p)
    = IntOp.cmpi .sgt (IntOp.minsi (o (ix1 (⟨p.val % 8 + 1, by omega⟩ : Fin 9))) (IntOp.muli (IntOp.addi (BitVec.ofNat 32 (p.val / 8)) 1#32) 256#32))
        (IntOp.maxsi (o (ix1 (⟨p.val % 8, by omega⟩ : Fin 9))) (IntOp.muli (BitVec.ofNat 32 (p.val / 8)) 256#32)) := by
  unfold meetTable
  rw [ix1_eq, ix1_eq, ix1_eq, Routing.cast21 _ shapeCasts_S16x8_S128 (⟨p.val / 8, by omega⟩ : Fin 16) (⟨p.val % 8, by omega⟩ : Fin 8) p (by show p.val = p.val / 8 * 8 + p.val % 8; omega)]
  show IntOp.cmpi .sgt (IntOp.minsi _ _) (IntOp.maxsi _ _) = _
  rw [Routing.bcCols, Routing.bcCols, column16, column16, Routing.slice1 (m := 9) (n := 8) 1 o _ _ (by show 1 + p.val % 8 < 9; omega),
    Routing.slice1 (m := 9) (n := 8) 0 o _ _ (by show 0 + p.val % 8 < 9; omega)]
  have e1 : (⟨1 + (⟨p.val % 8, by omega⟩ : Fin 8).val, by show 1 + p.val % 8 < 9; omega⟩ : Fin 9) = ⟨p.val % 8 + 1, by omega⟩ := Fin.ext (Nat.add_comm _ _)
  have e0 : (⟨0 + (⟨p.val % 8, by omega⟩ : Fin 8).val, by show 0 + p.val % 8 < 9; omega⟩ : Fin 9) = ⟨p.val % 8, by omega⟩ := Fin.ext (Nat.zero_add _)
  rw [e1, e0]
  rfl

/-! ## The memory the kernel finds -/

/-- The counts, from any memory. -/
theorem read_v10 (σ : Valuation τ sig (Elt F)) :
    (StableHlo.after (hostOps0_2 ++ (hostOps0_3 ++ hostOps0_4)) σ (Proc.devRef .tc main_v10) : IVec S8 32)
      = Host.reduce IntOp.addi (extui 32 (cmpi .eq (broadcastInDim S8x4096 ![0, 1] bcast_S1x4096_S8x4096_0_1 (broadcastInDim S1x4096 ![1] bcast_S4096_S1x4096_1 (σ (Proc.devRef .tc main_arg2) : IVec S4096 32)))
        (broadcastInDim S8x4096 ![0, 1] bcast_S8x1_S8x4096_0_1 (broadcastInDim S8x1 ![0] bcast_S8_S8x1_0 (iotaInDim S8 32 0)))) natLt_1_32)
      (constantI S_ 32 0#32) reducesTo_S8x4096_S8_d1 h_S_ := by
  after_reads_simp
/-- The group sizes, as the host counts them. -/
theorem read_v11 (σ : Valuation τ sig (Elt F)) :
    (StableHlo.after (hostOps0_2 ++ (hostOps0_3 ++ hostOps0_4)) σ (Proc.devRef .tc main_v11) : IVec S1 32) = fun _ => 0#32 := by
  after_reads_simp
  rfl
/-- The group offsets: a zero, and the running sums of the sizes. -/
theorem read_v13 (σ : Valuation τ sig (Elt F)) :
    (StableHlo.after opsB σ (Proc.devRef .tc main_v13) : IVec S9 32)
      = concatenate S9 0 [⟨S1, (σ (Proc.devRef .tc main_v11) : IVec S1 32)⟩, ⟨S8, Host.reduceWindow IntOp.addi ![8] ![1] ![7] ![0] (σ (Proc.devRef .tc main_v10) : IVec S8 32)
        (broadcastInDim S_ ![] bcast_S_S_ (constantI S_ 32 0#32)) reduceWindows_S8_S8_w8s1p7_0 h_S_⟩] concatenates_S1_S8_S9_d0 := by
  after_reads_simp
  rfl
/-- The table of bits, from the offsets. -/
theorem read_v35 (σ : Valuation τ sig (Elt F)) :
    (StableHlo.after hostOps0_6 σ (Proc.devRef .tc main_v35) : IVec S128 1)
      = meetTable (StableHlo.after hostOps0_6 σ (Proc.devRef .tc main_v13) : IVec S9 32) := by
  unfold meetTable
  after_reads_simp
  rfl

variable (m : (ℓ : Loc nD τ sig) → Buf (Elt F) ℓ)
variable (hk : ∀ c r, keyOf m c r < 8)

section
include hk

/-- The group offsets count the rows of smaller experts. -/
theorem vB_v13 (c : Dev nD) (e : Fin 9) : (VB m c (Proc.devRef .tc main_v13) : IVec S9 32) (ix1 e) = BitVec.ofNat 32 (below (keyOf m c) e.val) := by
  unfold VB
  rw [read_v13, VA_eq, read_v11, read_v10, vS_arg2]
  exact offsets_at _ _ (keyOf m c) rfl (sums_at _ (keyOf m c) (counts_at _ (fun r => hk c r))) e

/-- A pair's bit says whether some row of the tile has the expert. -/
theorem bit_meets (c : Dev nD) (p : Fin 128) : bitAt m c p = 1#1 ↔ Meets (exOf m c) p := by
  have h : (VB m c (Proc.devRef .tc main_v35) : IVec S128 1) = meetTable (VB m c (Proc.devRef .tc main_v13) : IVec S9 32) := by
    unfold VB
    rw [show (opsB (F := F)) = hostOps0_5 ++ hostOps0_6 from rfl, StableHlo.after_append]
    exact read_v35 _
  show (VB m c (Proc.devRef .tc main_v35) : IVec S128 1) (ix1 p) = 1#1 ↔ _
  rw [h, meetTable_at, vB_v13 m hk, vB_v13 m hk]
  exact (meet_word _ _ _ (by omega) (below_le _ _) (below_le _ _)).trans (meets_iff (keyOf m c) (p.val / 8) (p.val % 8) (by omega))

/-- A sorted row's expert is one of 8. -/
theorem ex_lt (c : Dev nD) (q : Fin 4096) : exOf m c q < 8 := hk c _
end

/-- Along the sorted rows the experts never go down. -/
theorem ex_mono (c : Dev nD) : Monotone (exOf m c) := fun _ _ h => ranked_mono (keyOf m c) h

end Cert.KernelIdeal.Gen
-- ==== Proof.KernelIdeal.Found.lean ====
module

public import proofs.«01_k».proof.Proof.KernelIdeal.Offsets
public import proofs.«01_k».proof.Proof.KernelIdeal.Kit

/-! The kernel's arrays as it finds them, entry by entry. -/

@[expose] public section

set_option maxRecDepth 16384

noncomputable section

namespace Cert.KernelIdeal.Gen

open Idealize.ShloMosaic Idealize.ShloMosaic.TcCoe Idealize.ShloMosaic.Tactic Cert.Grouped

variable {F : FTy → Type} [FloatOps F]
variable (m : (ℓ : Loc nD τ sig) → Buf (Elt F) ℓ)

/-- The sorting permutation at the launch. -/
theorem V_v0 (c : Dev nD) : V m c (Proc.devRef .tc main_v0) = VA m c (Proc.devRef .tc main_v0) := by
  unfold V VD VC VB; after_reads_simp
/-- The sorted source rows at the launch. -/
theorem V_v1 (c : Dev nD) : V m c (Proc.devRef .tc main_v1) = VA m c (Proc.devRef .tc main_v1) := by
  unfold V VD VC VB; after_reads_simp
/-- The sorted target rows at the launch. -/
theorem V_v2 (c : Dev nD) : V m c (Proc.devRef .tc main_v2) = VA m c (Proc.devRef .tc main_v2) := by
  unfold V VD VC VB; after_reads_simp
/-- The group offsets at the launch. -/
theorem V_v13 (c : Dev nD) : V m c (Proc.devRef .tc main_v13) = VB m c (Proc.devRef .tc main_v13) := by
  unfold V VD VC; after_reads_simp
/-- Argument 4 is still as given. -/
theorem VD_arg4 (c : Dev nD) : VD m c (Proc.devRef .tc main_arg4) = m (c, Proc.devRef .tc main_arg4) := by
  unfold VD VC VB VA; after_reads_simp
/-- Argument 6 is still as given. -/
theorem VD_arg6 (c : Dev nD) : VD m c (Proc.devRef .tc main_arg6) = m (c, Proc.devRef .tc main_arg6) := by
  unfold VD VC VB VA; after_reads_simp

/-- The projection biases, reshaped. -/
theorem V_v67 (c : Dev nD) (e : Fin 8) (y : Fin 768) : (V m c (Proc.devRef .tc main_v67) : Vec F S8x1x768 .f32) (ValueIdx.ix3 e (0 : Fin 1) y)
    = (m (c, Proc.devRef .tc main_arg4) : Vec F S8x768 .f32) (ix2 e y) := by
  have h : (V m c (Proc.devRef .tc main_v67) : Vec F S8x1x768 .f32) = shapeCast S8x1x768 (VD m c (Proc.devRef .tc main_arg4) : Vec F S8x768 .f32) shapeCasts_S8x768_S8x1x768 := by
    unfold V; after_reads_simp; rfl
  rw [h, VD_arg4, ix2_eq]
  refine shapeCast_apply _ shapeCasts_S8x768_S8x1x768 _ _ ?_
  rw [Shape.rowMajor_val_three, Shape.rowMajor_val_two]
  show e.val * 768 + y.val = (e.val * 1 + 0) * 768 + y.val
  omega

/-- The last bias, reshaped. -/
theorem V_v68 (c : Dev nD) (j : S1x1.Idx) : (V m c (Proc.devRef .tc main_v68) : Vec F S1x1 .f32) j
    = (m (c, Proc.devRef .tc main_arg6) : Vec F S1 .f32) (ix1 0) := by
  have h : (V m c (Proc.devRef .tc main_v68) : Vec F S1x1 .f32) = shapeCast S1x1 (VD m c (Proc.devRef .tc main_arg6) : Vec F S1 .f32) shapeCasts_S1_S1x1 := by
    unfold V; after_reads_simp; rfl
  rw [h, VD_arg6]
  unfold shapeCast
  refine congrArg _ (funext fun d => ?_)
  match d with | ⟨0, _⟩ => exact Subsingleton.elim (α := Fin 1) _ _

end Cert.KernelIdeal.Gen
-- ==== Proof.KernelIdeal.Blocks.lean ====
module

public import proofs.«01_k».proof.Proof.KernelIdeal.Found
public import proofs.«01_k».proof.Proof.KernelIdeal.Points
public import Idealize.ShloMosaic.Lib.Pipeline.ValueKit
public import Idealize.ShloMosaic.Lib.Pointwise

/-! The windows' blocks, entry by entry: each block is read off its array at the schedule's tile or expert. -/

@[expose] public section

set_option maxRecDepth 16384

noncomputable section

namespace Cert.KernelIdeal.Gen

open Idealize.ShloMosaic Idealize.ShloMosaic.TcCoe Idealize.ShloMosaic.Tactic Cert.Grouped
open Idealize.ShloMosaic.Pipeline (Dat Cfg Window BodyObligation cellOf)

variable {F : FTy → Type} [FloatOps F]

/-! ## A block read out of an array -/

/-- Row `r` of a source block that stands at tile `n` is row `n * 256 + r` of the array. -/
theorem cut_0 (a : (pcfg0 (F := F)).Adm) (t : Fin (cfg0 a).N) (n : ℕ) (e : ((cfg0 a).win 0).index t = ![n, 0]) (x : Vec F S4096x768 .f32)
    (r : Fin 256) (k : Fin 768) (q : Fin 4096) (hq : q.val = n * 256 + r.val) :
    ((((cfg0 a).win 0).blk t).view.read (Elt F) x : Vec F S256x768 .f32) (ix2 r k) = x (ix2 q k) := by
  show x ((((cfg0 a).win 0).rect t).emb (ix2 r k)) = x (ix2 q k)
  refine congrArg x (funext fun d => Fin.ext ?_)
  have h := Pipeline.Window.rect_emb_val ((cfg0 a).win 0) t (ix2 r k) d rfl
  rw [e] at h
  refine h.trans ?_
  match d with
  | ⟨0, _⟩ => exact hq.symm
  | ⟨1, _⟩ => show 0 * 768 + k.val = k.val; omega

/-- Row `r` of a target block that stands at tile `n` is row `n * 256 + r` of the array. -/
theorem cut_1 (a : (pcfg0 (F := F)).Adm) (t : Fin (cfg0 a).N) (n : ℕ) (e : ((cfg0 a).win 1).index t = ![n, 0]) (x : Vec F S4096x768 .f32)
    (r : Fin 256) (k : Fin 768) (q : Fin 4096) (hq : q.val = n * 256 + r.val) :
    ((((cfg0 a).win 1).blk t).view.read (Elt F) x : Vec F S256x768 .f32) (ix2 r k) = x (ix2 q k) := by
  show x ((((cfg0 a).win 1).rect t).emb (ix2 r k)) = x (ix2 q k)
  refine congrArg x (funext fun d => Fin.ext ?_)
  have h := Pipeline.Window.rect_emb_val ((cfg0 a).win 1) t (ix2 r k) d rfl
  rw [e] at h
  refine h.trans ?_
  match d with
  | ⟨0, _⟩ => exact hq.symm
  | ⟨1, _⟩ => show 0 * 768 + k.val = k.val; omega

/-- A projection block that stands at `e` is member `e` of the array. -/
theorem cut_2 (a : (pcfg0 (F := F)).Adm) (t : Fin (cfg0 a).N) (e : Fin 8) (h : ((cfg0 a).win 2).index t = ![e.val, 0, 0]) (x : Vec F S8x768x768 .f32)
    (i : Fin 768) (k : Fin 768) :
    ((((cfg0 a).win 2).blk t).view.read (Elt F) x : Vec F S1x768x768 .f32) (ix3 (0 : Fin 1) i k) = x (ix3 e i k) := by
  show x ((((cfg0 a).win 2).rect t).emb (ix3 (0 : Fin 1) i k)) = x (ix3 e i k)
  refine congrArg x (funext fun d => Fin.ext ?_)
  have h' := Pipeline.Window.rect_emb_val ((cfg0 a).win 2) t (ix3 (0 : Fin 1) i k) d rfl
  rw [h] at h'
  refine h'.trans ?_
  match d with
  | ⟨0, _⟩ => show e.val * 1 + 0 = e.val; omega
  | ⟨1, _⟩ => show 0 * 768 + i.val = i.val; omega
  | ⟨2, _⟩ => show 0 * 768 + k.val = k.val; omega

/-- A bilinear form's block that stands at `e` is member `e` of the array. -/
theorem cut_3 (a : (pcfg0 (F := F)).Adm) (t : Fin (cfg0 a).N) (e : Fin 1) (h : ((cfg0 a).win 3).index t = ![e.val, 0, 0]) (x : Vec F S1x768x768 .f32)
    (i : Fin 768) (k : Fin 768) :
    ((((cfg0 a).win 3).blk t).view.read (Elt F) x : Vec F S1x768x768 .f32) (ix3 (0 : Fin 1) i k) = x (ix3 e i k) := by
  show x ((((cfg0 a).win 3).rect t).emb (ix3 (0 : Fin 1) i k)) = x (ix3 e i k)
  refine congrArg x (funext fun d => Fin.ext ?_)
  have h' := Pipeline.Window.rect_emb_val ((cfg0 a).win 3) t (ix3 (0 : Fin 1) i k) d rfl
  rw [h] at h'
  refine h'.trans ?_
  match d with
  | ⟨0, _⟩ => show e.val * 1 + 0 = e.val; omega
  | ⟨1, _⟩ => show 0 * 768 + i.val = i.val; omega
  | ⟨2, _⟩ => show 0 * 768 + k.val = k.val; omega

/-- A bias block that stands at `e` is member `e` of the array. -/
theorem cut_4 (a : (pcfg0 (F := F)).Adm) (t : Fin (cfg0 a).N) (e : Fin 8) (h : ((cfg0 a).win 4).index t = ![e.val, 0, 0]) (x : Vec F S8x1x768 .f32)
    (i : Fin 1) (k : Fin 768) :
    ((((cfg0 a).win 4).blk t).view.read (Elt F) x : Vec F S1x1x768 .f32) (ix3 (0 : Fin 1) i k) = x (ix3 e i k) := by
  show x ((((cfg0 a).win 4).rect t).emb (ix3 (0 : Fin 1) i k)) = x (ix3 e i k)
  refine congrArg x (funext fun d => Fin.ext ?_)
  have h' := Pipeline.Window.rect_emb_val ((cfg0 a).win 4) t (ix3 (0 : Fin 1) i k) d rfl
  rw [h] at h'
  refine h'.trans ?_
  match d with
  | ⟨0, _⟩ => show e.val * 1 + 0 = e.val; omega
  | ⟨1, _⟩ => show 0 * 1 + i.val = i.val; omega
  | ⟨2, _⟩ => show 0 * 768 + k.val = k.val; omega

/-- Window 0 (sorted source rows) stands where the schedule's entry says. -/
theorem at_0 (a : (pcfg0 (F := F)).Adm) (t : Fin (cfg0 a).N) (n : ℕ) (h : ((a.1 0 : IVec S4x23 32) (ix2 0 (item (grid0.coords t)))).toNat = n) :
    ((cfg0 a).win 0).index t = ![n, 0] :=
  (map_0 a.1 (grid0.coords t)).trans (by rw [h])
/-- Window 1 (sorted target rows) stands where the schedule's entry says. -/
theorem at_1 (a : (pcfg0 (F := F)).Adm) (t : Fin (cfg0 a).N) (n : ℕ) (h : ((a.1 0 : IVec S4x23 32) (ix2 0 (item (grid0.coords t)))).toNat = n) :
    ((cfg0 a).win 1).index t = ![n, 0] :=
  (map_1 a.1 (grid0.coords t)).trans (by rw [h])
/-- Window 6 (output) stands where the schedule's entry says. -/
theorem at_6 (a : (pcfg0 (F := F)).Adm) (t : Fin (cfg0 a).N) (n : ℕ) (h : ((a.1 0 : IVec S4x23 32) (ix2 0 (item (grid0.coords t)))).toNat = n) :
    ((cfg0 a).win 6).index t = ![n, 0] :=
  (map_6 a.1 (grid0.coords t)).trans (by rw [h])
/-- Window 2 (projection weights) stands where the schedule's entry says. -/
theorem at_2 (a : (pcfg0 (F := F)).Adm) (t : Fin (cfg0 a).N) (n : ℕ) (h : ((a.1 0 : IVec S4x23 32) (ix2 1 (item (grid0.coords t)))).toNat = n) :
    ((cfg0 a).win 2).index t = ![n, 0, 0] :=
  (map_2 a.1 (grid0.coords t)).trans (by rw [h])
/-- Window 4 (projection biases) stands where the schedule's entry says. -/
theorem at_4 (a : (pcfg0 (F := F)).Adm) (t : Fin (cfg0 a).N) (n : ℕ) (h : ((a.1 0 : IVec S4x23 32) (ix2 1 (item (grid0.coords t)))).toNat = n) :
    ((cfg0 a).win 4).index t = ![n, 0, 0] :=
  (map_4 a.1 (grid0.coords t)).trans (by rw [h])

/-- Row `r` of an output block that stands at tile `n` is row `n * 256 + r` of the array. -/
theorem place_6 (a : (pcfg0 (F := F)).Adm) (t : Fin (cfg0 a).N) (n : ℕ) (e : ((cfg0 a).win 6).index t = ![n, 0])
    (r : Fin 256) (q : Fin 4096) (hq : q.val = n * 256 + r.val) :
    ((((cfg0 a).win 6).rect t).emb (ix2 r (0 : Fin 1)) : S4096x1.Idx) = ix2 q (0 : Fin 1) := by
  refine funext fun d => Fin.ext ?_
  have h := Pipeline.Window.rect_emb_val ((cfg0 a).win 6) t (ix2 r (0 : Fin 1)) d rfl
  rw [e] at h
  refine h.trans ?_
  match d with
  | ⟨0, _⟩ => exact hq.symm
  | ⟨1, _⟩ => rfl

/-! ## The kernel's blocks -/

attribute [local irreducible] tbl V tileOf expertOf

variable (m : (ℓ : Loc nD τ sig) → Buf (Elt F) ℓ)

/-- The schedule entry of a point. -/
abbrev itemAt (hO : Ok m) (t : Fin (cfgM m hO).N) : Fin 23 := item (grid0.coords t)

/-- The same of the kernel's own tables, window 0. -/
theorem index_0 (hO : Ok m) (t : Fin (cfgM m hO).N) : ((cfgM m hO).win 0).index t = ![tileOf m 0 (itemAt m hO t), 0] :=
  at_0 (adm m hO) t _ (tile_nat m _)
/-- The same of the kernel's own tables, window 1. -/
theorem index_1 (hO : Ok m) (t : Fin (cfgM m hO).N) : ((cfgM m hO).win 1).index t = ![tileOf m 0 (itemAt m hO t), 0] :=
  at_1 (adm m hO) t _ (tile_nat m _)
/-- The same of the kernel's own tables, window 6. -/
theorem index_6 (hO : Ok m) (t : Fin (cfgM m hO).N) : ((cfgM m hO).win 6).index t = ![tileOf m 0 (itemAt m hO t), 0] :=
  at_6 (adm m hO) t _ (tile_nat m _)
/-- The same of the kernel's own tables, window 2. -/
theorem index_2 (hO : Ok m) (t : Fin (cfgM m hO).N) : ((cfgM m hO).win 2).index t = ![expertOf m 0 (itemAt m hO t), 0, 0] :=
  at_2 (adm m hO) t _ (expert_nat m _)
/-- The same of the kernel's own tables, window 4. -/
theorem index_4 (hO : Ok m) (t : Fin (cfgM m hO).N) : ((cfgM m hO).win 4).index t = ![expertOf m 0 (itemAt m hO t), 0, 0] :=
  at_4 (adm m hO) t _ (expert_nat m _)

/-- The block of window 0 (sorted source rows) at a point, entry by entry. -/
theorem iblk_0 (hk : ∀ c r, keyOf m c r < 8) (hO : Ok m) (c : Dev nD) (t : Fin (cfgM m hO).N) (r : Fin 256) (k : Fin 768) (q : Fin 4096)
    (hq : q.val = tileOf m 0 (itemAt m hO t) * 256 + r.val) :
    (iblk m hO c 0 t : Vec F S256x768 .f32) (ix2 r k) = (m (c, Proc.devRef .tc main_arg0) : Vec F S4096x768 .f32) (ix2 (permOf m c q) k) := by
  have h := cut_0 (adm m hO) t _ (index_0 m hO t) (V m c (Proc.devRef .tc main_v1) : Vec F S4096x768 .f32) r k q hq
  exact h.trans ((congrFun (V_v1 m c) (ix2 q k)).trans (vA_v1 m hk c q k))

/-- The block of window 1 (sorted target rows) at a point, entry by entry. -/
theorem iblk_1 (hk : ∀ c r, keyOf m c r < 8) (hO : Ok m) (c : Dev nD) (t : Fin (cfgM m hO).N) (r : Fin 256) (k : Fin 768) (q : Fin 4096)
    (hq : q.val = tileOf m 0 (itemAt m hO t) * 256 + r.val) :
    (iblk m hO c 1 t : Vec F S256x768 .f32) (ix2 r k) = (m (c, Proc.devRef .tc main_arg1) : Vec F S4096x768 .f32) (ix2 (permOf m c q) k) := by
  have h := cut_1 (adm m hO) t _ (index_1 m hO t) (V m c (Proc.devRef .tc main_v2) : Vec F S4096x768 .f32) r k q hq
  exact h.trans ((congrFun (V_v2 m c) (ix2 q k)).trans (vA_v2 m hk c q k))

/-- The block of window 2 (projection weights) at a point, entry by entry. -/
theorem iblk_2 (hO : Ok m) (c : Dev nD) (t : Fin (cfgM m hO).N) (i k : Fin 768) (e : Fin 8) (he : expertOf m 0 (itemAt m hO t) = e.val) :
    (iblk m hO c 2 t : Vec F S1x768x768 .f32) (ix3 (0 : Fin 1) i k) = (m (c, Proc.devRef .tc main_arg3) : Vec F S8x768x768 .f32) (ix3 e i k) := by
  have h := cut_2 (adm m hO) t e (by rw [← he]; exact index_2 m hO t) (V m c (Proc.devRef .tc main_arg3) : Vec F S8x768x768 .f32) i k
  exact h.trans (congrFun (V_main_arg3 m c) _)

/-- The block of window 3 (bilinear form) at a point, entry by entry. -/
theorem iblk_3 (hO : Ok m) (c : Dev nD) (t : Fin (cfgM m hO).N) (i k : Fin 768) :
    (iblk m hO c 3 t : Vec F S1x768x768 .f32) (ix3 (0 : Fin 1) i k) = (m (c, Proc.devRef .tc main_arg5) : Vec F S1x768x768 .f32) (ix3 (0 : Fin 1) i k) := by
  have h := cut_3 (adm m hO) t 0 rfl (V m c (Proc.devRef .tc main_arg5) : Vec F S1x768x768 .f32) i k
  exact h.trans (congrFun (V_main_arg5 m c) _)

/-- The block of window 4 (projection biases) at a point, entry by entry. -/
theorem iblk_4 (hO : Ok m) (c : Dev nD) (t : Fin (cfgM m hO).N) (k : Fin 768) (e : Fin 8) (he : expertOf m 0 (itemAt m hO t) = e.val) :
    (iblk m hO c 4 t : Vec F S1x1x768 .f32) (ix3 (0 : Fin 1) (0 : Fin 1) k) = (m (c, Proc.devRef .tc main_arg4) : Vec F S8x768 .f32) (ix2 e k) := by
  rw [← V_v67 m c e k]
  exact cut_4 (adm m hO) t e (by rw [← he]; exact index_4 m hO t) (V m c (Proc.devRef .tc main_v67) : Vec F S8x1x768 .f32) 0 k

/-- The block of window 5 (last bias) at a point, entry by entry. -/
theorem iblk_5 (hO : Ok m) (c : Dev nD) (t : Fin (cfgM m hO).N) (j : S1x1.Idx) :
    (iblk m hO c 5 t : Vec F S1x1 .f32) j = (m (c, Proc.devRef .tc main_arg6) : Vec F S1 .f32) (ix1 (0 : Fin 1)) :=
  V_v68 m c _

end Cert.KernelIdeal.Gen
-- ==== Proof.KernelIdeal.Score.lean ====
module

public import proofs.«01_k».proof.Proof.KernelIdeal.Body
public import Idealize.ShloMosaic.Lib.Pointwise
public import Idealize.ShloMosaic.Lib.WordCmp

/-! One grid point's payloads at a row, over the extended reals. -/

@[expose] public section

set_option maxRecDepth 16384

noncomputable section

namespace Cert.KernelIdeal.Gen

open Idealize.ShloMosaic Idealize.ShloMosaic.TcCoe Idealize.ShloMosaic.Tactic

/-- The score of one row as the kernel adds it up: the projected source row against the bilinear form's image of the target row. -/
def rowScore (zs zd : Fin 768 → EReal) (wp : Fin 768 → Fin 768 → EReal) (bp : Fin 768 → EReal) (wb : Fin 768 → Fin 768 → EReal) (b : EReal) : EReal :=
  ∑ i, (∑ k, zs k * wp i k + bp i) * ∑ j, zd j * wb i j + b

/-- The matmuls' payload at a row is that row's score. -/
theorem pay3_at (x3 x4 : Vec Ideal S256x768 .f32) (x5 x6 : Vec Ideal S1x768x768 .f32) (x7 : Vec Ideal S1x1x768 .f32) (x8 : Vec Ideal S1x1 .f32) (r : Fin 256) :
    k0_pay3 (F := Ideal) x3 x4 x5 x6 x7 x8 (ix2 r (0 : Fin 1)) = rowScore (fun k => x3 (ix2 r k)) (fun k => x4 (ix2 r k)) (fun i k => x5 (ix3 0 i k))
      (fun i => x7 (ix3 0 0 i)) (fun i k => x6 (ix3 0 i k)) (x8 (ix2 0 0)) := by
  unfold k0_pay3 rowScore
  pointwise

/-- The mask at a row: the row's place among all rows lies in the group's range. -/
theorem pay4_at (n lo hi : ℕ) (hn : n < 16) (hlo : lo ≤ 4096) (hhi : hi ≤ 4096) (r : Fin 256) :
    k0_pay4 (F := Ideal) (BitVec.ofNat 32 n) (BitVec.ofNat 32 lo) (BitVec.ofNat 32 hi) (ix2 r (0 : Fin 1)) = 1#1 ↔ lo ≤ n * 256 + r.val ∧ n * 256 + r.val < hi := by
  unfold k0_pay4
  pointwise
  have hr := r.isLt
  rw [IntOp.andi_eq_one, show Scalar.muli (BitVec.ofNat 32 n) 256#32 = BitVec.ofNat 32 (n * 256) from WordCmp.muli_ofNat n 256, WordCmp.addi_ofNat,
    WordCmp.cmpi_sge_ofNat_eq_one_iff (by omega) (by omega), WordCmp.cmpi_slt_ofNat_eq_one_iff (by omega) (by omega)]

/-- A masked sum at a row. -/
theorem pay2_at (v : FVec Ideal S256x1 .f32) (p : IVec S256x1 1) (z : Vec Ideal S256x1 .f32) (r : Fin 256) :
    k0_pay2 (F := Ideal) v p (k0_pay5 z) (FloatOps.ofBits .f32 0) (ix2 r (0 : Fin 1))
      = z (ix2 r 0) + if p (ix2 r 0) = 1#1 then v (ix2 r 0) else 0 := by
  unfold k0_pay2 k0_pay5
  pointwise
  refine congrArg (z (ix2 r 0) + ·) ?_
  rw [← Ideal.ofBits_zero_f32]
  rfl

/-- The fresh block is zero. -/
theorem pay1_at (j : S256x1.Idx) : k0_pay1 (F := Ideal) j = (0 : EReal) := by
  unfold k0_pay1
  pointwise

/-! ## One point over given tables and blocks -/

/-- The word that says whether to start or to add is a bit widened: the body's test gives the bit back. -/
theorem cond1_bit (x : BitVec 1) : k0_cond1 (x.setWidth 32) = x := by revert x; decide
/-- The condition on the fourth row of the schedule is its bit. -/
theorem cond2_bit (x : BitVec 1) : k0_cond2 (x.setWidth 32) = x := by revert x; decide

/-- A point that starts a tile clears the buffer; a point whose pair occurs adds the scores of the rows in the pair's range. -/
theorem step_at (c : Dev nD) (i : grid0.Coords) (xt0 : TbBuf0 (F := Ideal) c tbM0_0) (xt1 : TbBuf0 (F := Ideal) c tbM0_1)
    (hc : k0_chk1 (word c xt0 (k0_off2 i) (k0_off2_inb i)) (word c xt0 (k0_off4 i) (k0_off4_inb i)))
    (x3 : Vec Ideal S256x768 .f32) (x4 : Vec Ideal S256x768 .f32) (x5 : Vec Ideal S1x768x768 .f32) (x6 : Vec Ideal S1x768x768 .f32)
    (x7 : Vec Ideal S1x1x768 .f32) (x8 : Vec Ideal S1x1 .f32) (x9 : Vec Ideal S256x1 .f32)
    (p b : BitVec 1) (n lo hi : ℕ) (hn : n < 16) (hlo : lo ≤ 4096) (hhi : hi ≤ 4096)
    (h3 : word c xt0 (k0_off3 i) (k0_off3_inb i) = p.setWidth 32) (h4 : word c xt0 (k0_off4 i) (k0_off4_inb i) = b.setWidth 32)
    (h1 : word c xt0 (k0_off1 i) (k0_off1_inb i) = BitVec.ofNat 32 n)
    (h5 : ∀ h, bound c xt1 (k0_off5 (word c xt0 (k0_off2 i) (k0_off2_inb i))) h = BitVec.ofNat 32 lo)
    (h6 : ∀ h, bound c xt1 (k0_off6 (word c xt0 (k0_off2 i) (k0_off2_inb i))) h = BitVec.ofNat 32 hi) (r : Fin 256) :
    (step c i xt0 xt1 hc x3 x4 x5 x6 x7 x8 x9) (ix2 r (0 : Fin 1))
      = ((if p = 1#1 then (0 : EReal) else x9 (ix2 r 0))
        + if b = 1#1 ∧ lo ≤ n * 256 + r.val ∧ n * 256 + r.val < hi then rowScore (fun k => x3 (ix2 r k)) (fun k => x4 (ix2 r k)) (fun i k => x5 (ix3 0 i k))
            (fun i => x7 (ix3 0 0 i)) (fun i k => x6 (ix3 0 i k)) (x8 (ix2 0 0)) else 0 : EReal) := by
  have hz : ((if k0_cond1 (word c xt0 (k0_off3 i) (k0_off3_inb i)) = 1#1 then k0_pay1 (F := Ideal) else x9) : Vec Ideal S256x1 .f32) (ix2 r (0 : Fin 1))
      = if p = 1#1 then (0 : EReal) else x9 (ix2 r 0) := by
    rw [h3, cond1_bit]
    split
    · exact pay1_at _
    · rfl
  unfold step
  by_cases h : k0_cond2 (word c xt0 (k0_off4 i) (k0_off4_inb i)) = 1#1
  · rw [dif_pos h]
    refine (pay2_at _ _ _ r).trans ?_
    rw [hz, h1, h5, h6]
    have hb : b = 1#1 := by rw [h4, cond2_bit] at h; exact h
    refine congrArg (fun y : EReal => (if p = 1#1 then (0 : EReal) else x9 (ix2 r 0)) + y) ?_
    rw [pay3_at]
    exact if_congr ((pay4_at n lo hi hn hlo hhi r).trans (by simp [hb])) rfl rfl
  · rw [dif_neg h, hz]
    have hb : ¬ b = 1#1 := by rw [h4, cond2_bit] at h; exact h
    exact (add_zero _).symm.trans (congrArg (fun y : EReal => (if p = 1#1 then (0 : EReal) else x9 (ix2 r 0)) + y) (if_neg fun h' => hb h'.1).symm)

/-- The word of the offsets table at place `n`. -/
theorem bound_at (c : Dev nD) (x : IVec S9 32) (off : Fin 1 → ℕ) (h : ∀ a, off a + S1.size a ≤ S9.size a) (e : Fin 9) (he : off 0 = e.val) :
    bound (F := Ideal) c x off h = x (ix1 e) := by
  show x ((Rect.unit (s := S9) off S1.size h).emb _) = _
  refine congrArg x (funext fun d => Fin.ext ?_)
  match d with
  | ⟨0, _⟩ => show off 0 + 1 * 0 = e.val; omega

/-- The word at an expert's number, and the word after it. -/
theorem lo_of (c : Dev nD) (x : IVec S9 32) (f : ℕ → ℕ) (hf : ∀ e : Fin 9, x (ix1 e) = BitVec.ofNat 32 (f e.val)) (v : BitVec 32) (n : ℕ) (hn : n < 8)
    (hv : v = BitVec.ofNat 32 n) (h : ∀ a, k0_off5 v a + S1.size a ≤ S9.size a) : bound (F := Ideal) c x (k0_off5 v) h = BitVec.ofNat 32 (f n) := by
  subst hv
  refine (bound_at c x _ h ⟨n, by omega⟩ ?_).trans (hf _)
  show (BitVec.ofNat 32 n).toNat = n
  rw [BitVec.toNat_ofNat]; omega
/-- The upper bound of a group, read from the offsets. -/
theorem hi_of (c : Dev nD) (x : IVec S9 32) (f : ℕ → ℕ) (hf : ∀ e : Fin 9, x (ix1 e) = BitVec.ofNat 32 (f e.val)) (v : BitVec 32) (n : ℕ) (hn : n < 8)
    (hv : v = BitVec.ofNat 32 n) (h : ∀ a, k0_off6 v a + S1.size a ≤ S9.size a) : bound (F := Ideal) c x (k0_off6 v) h = BitVec.ofNat 32 (f (n + 1)) := by
  subst hv
  refine (bound_at c x _ h ⟨n + 1, by omega⟩ ?_).trans (hf _)
  show (BitVec.ofNat 32 n + BitVec.ofNat 32 1).toNat = n + 1
  rw [BitVec.toNat_add, BitVec.toNat_ofNat, BitVec.toNat_ofNat]; omega

end Cert.KernelIdeal.Gen
-- ==== Proof.KernelIdeal.Values.lean ====
module

public import proofs.«01_k».proof.Proof.KernelIdeal.Blocks
public import proofs.«01_k».proof.Proof.KernelIdeal.Score
public import proofs.«01_k».proof.Proof.Schedule

/-! What the output's buffer holds after each grid point, in closed form. -/

@[expose] public section

set_option maxRecDepth 16384

noncomputable section

namespace Cert.KernelIdeal.Gen

open Idealize.ShloMosaic Idealize.ShloMosaic.TcCoe Idealize.ShloMosaic.Tactic Cert.Grouped
open Idealize.ShloMosaic.Pipeline (Dat Cfg Window BodyObligation cellOf)

/-! ## The kernel's points -/

variable (m : (ℓ : Loc nD τ sig) → Buf (Elt Ideal) ℓ)

/-- An expert's number as an index of the stacked weights. -/
def ex8 (n : ℕ) : Fin 8 := ⟨n % 8, by omega⟩

/-- The score of row `r` under its own expert, as the kernel adds it up. -/
def rowVal (c : Dev nD) (r : Fin 4096) : EReal :=
  rowScore (fun k => (m (c, Proc.devRef .tc main_arg0) : Vec Ideal S4096x768 .f32) (ix2 r k))
    (fun k => (m (c, Proc.devRef .tc main_arg1) : Vec Ideal S4096x768 .f32) (ix2 r k))
    (fun i k => (m (c, Proc.devRef .tc main_arg3) : Vec Ideal S8x768x768 .f32) (ix3 (ex8 (keyOf m c r)) i k))
    (fun i => (m (c, Proc.devRef .tc main_arg4) : Vec Ideal S8x768 .f32) (ix2 (ex8 (keyOf m c r)) i))
    (fun i k => (m (c, Proc.devRef .tc main_arg5) : Vec Ideal S1x768x768 .f32) (ix3 (0 : Fin 1) i k))
    ((m (c, Proc.devRef .tc main_arg6) : Vec Ideal S1 .f32) (ix1 (0 : Fin 1)))

/-- Row `r` of tile `n` in the sorted order. -/
def rowIn (n : ℕ) (r : Fin 256) : Fin 4096 := ⟨(n * 256 + r.val) % 4096, by omega⟩
/-- The number of a row of a tile. -/
theorem rowIn_val (n : ℕ) (r : Fin 256) (hn : n < 16) : (rowIn n r).val = n * 256 + r.val := by
  have := r.isLt; unfold rowIn; show (n * 256 + r.val) % 4096 = _; omega

/-- The output block at entry `w` of the schedule: the scores of the tile's rows whose expert is not beyond the entry's, zero elsewhere. -/
def blockAt (c : Dev nD) (w : Fin 23) (r : Fin 256) : EReal :=
  if exOf m c (rowIn (tileOf m 0 w) r) ≤ expertOf m 0 w then rowVal m c (permOf m c (rowIn (tileOf m 0 w) r)) else 0

/-- The offsets table as the body is handed it. -/
theorem offsets_tbl (hk : ∀ c r, keyOf m c r < 8) (e : Fin 9) : (tbl m 1 : IVec S9 32) (ix1 e) = BitVec.ofNat 32 (below (keyOf m 0) e.val) := by
  rw [← vB_v13 m hk 0 e, ← V_v13 m 0]
  rfl

attribute [local irreducible] tbl V tileOf expertOf code

/-- The offsets table at the point's expert and at the one after it. -/
theorem lo_word (hk : ∀ c r, keyOf m c r < 8) (c : Dev nD) (i : grid0.Coords)
    (h : ∀ a, k0_off5 (word (F := Ideal) c (tbl m 0) (k0_off2 i) (k0_off2_inb i)) a + S1.size a ≤ S9.size a) :
    bound (F := Ideal) c (tbl m 1) (k0_off5 (word c (tbl m 0) (k0_off2 i) (k0_off2_inb i))) h = BitVec.ofNat 32 (below (keyOf m 0) (expertOf m 0 (item i))) :=
  lo_of c (tbl m 1) (below (keyOf m 0)) (offsets_tbl m hk) _ (expertOf m 0 (item i)) (expertOf_lt m 0 (item i)) (word_expert m c i) h
/-- The offsets table after the expert of the point. -/
theorem hi_word (hk : ∀ c r, keyOf m c r < 8) (c : Dev nD) (i : grid0.Coords)
    (h : ∀ a, k0_off6 (word (F := Ideal) c (tbl m 0) (k0_off2 i) (k0_off2_inb i)) a + S1.size a ≤ S9.size a) :
    bound (F := Ideal) c (tbl m 1) (k0_off6 (word c (tbl m 0) (k0_off2 i) (k0_off2_inb i))) h = BitVec.ofNat 32 (below (keyOf m 0) (expertOf m 0 (item i) + 1)) :=
  hi_of c (tbl m 1) (below (keyOf m 0)) (offsets_tbl m hk) _ (expertOf m 0 (item i)) (expertOf_lt m 0 (item i)) (word_expert m c i) h

/-- A point of the kernel at a row of its tile. -/
theorem outStep_at (hk : ∀ c r, keyOf m c r < 8) (hO : Ok m) (c : Dev nD) (t : Fin (cfgM m hO).N) (d : Vec Ideal S256x1 .f32) (r : Fin 256) :
    (outStep m hO c t d) (ix2 r (0 : Fin 1))
      = ((if firstBit m 0 (itemAt m hO t) = 1#1 then (0 : EReal) else d (ix2 r 0))
        + if bitAt m 0 (code m 0 (itemAt m hO t)) = 1#1 ∧ exOf m c (rowIn (tileOf m 0 (itemAt m hO t)) r) = expertOf m 0 (itemAt m hO t)
          then rowVal m c (permOf m c (rowIn (tileOf m 0 (itemAt m hO t)) r)) else 0 : EReal) := by
  have hc : c = 0 := Subsingleton.elim (α := Fin 1) c 0
  have hn := tileOf_lt m 0 (itemAt m hO t)
  have hx := expertOf_lt m 0 (itemAt m hO t)
  have hq := rowIn_val (tileOf m 0 (itemAt m hO t)) r hn
  refine (step_at c (grid0.coords t) (tbl m 0) (tbl m 1) (chk m c (grid0.coords t)) _ _ _ _ _ _ d _ _ _ _ _ hn (below_le _ _) (below_le _ _)
    (word_first m c _) (word_meets m c _) (word_tile m c _) (lo_word m hk c _) (hi_word m hk c _) r).trans ?_
  refine congrArg (fun y : EReal => (if firstBit m 0 (itemAt m hO t) = 1#1 then (0 : EReal) else d (ix2 r 0)) + y) ?_
  rw [← hq]
  have key : (below (keyOf m 0) (expertOf m 0 (itemAt m hO t)) ≤ (rowIn (tileOf m 0 (itemAt m hO t)) r).val
        ∧ (rowIn (tileOf m 0 (itemAt m hO t)) r).val < below (keyOf m 0) (expertOf m 0 (itemAt m hO t) + 1))
      ↔ exOf m c (rowIn (tileOf m 0 (itemAt m hO t)) r) = expertOf m 0 (itemAt m hO t) := by
    rw [hc, ← not_lt, lt_below_iff, lt_below_iff]
    show ¬ exOf m 0 _ < _ ∧ exOf m 0 _ < _ ↔ _
    omega
  by_cases hb : bitAt m 0 (code m 0 (itemAt m hO t)) = 1#1 ∧ exOf m c (rowIn (tileOf m 0 (itemAt m hO t)) r) = expertOf m 0 (itemAt m hO t)
  · rw [if_pos hb, if_pos ⟨hb.1, key.2 hb.2⟩]
    have he : expertOf m 0 (itemAt m hO t) = (ex8 (keyOf m c (permOf m c (rowIn (tileOf m 0 (itemAt m hO t)) r)))).val := by
      rw [← hb.2]; exact (Nat.mod_eq_of_lt (hk _ _)).symm
    unfold rowVal
    congr 1
    · exact funext fun k => iblk_0 m hk hO c t r k _ hq
    · exact funext fun k => iblk_1 m hk hO c t r k _ hq
    · exact funext fun i => funext fun k => iblk_2 m hO c t i k _ he
    · exact funext fun k => iblk_4 m hO c t k _ he
    · exact funext fun i => funext fun k => iblk_3 m hO c t i k
    · exact iblk_5 m hO c t _
  · rw [if_neg hb, if_neg fun h => hb ⟨h.1, key.1 h.2⟩]

end Cert.KernelIdeal.Gen
-- ==== Proof.KernelIdeal.Steps.lean ====
module

public import proofs.«01_k».proof.Proof.KernelIdeal.Values

/-! The closed form of the output's block, carried from one point to the next. -/

@[expose] public section

set_option maxRecDepth 16384

noncomputable section

namespace Cert.KernelIdeal.Gen

open Idealize.ShloMosaic Idealize.ShloMosaic.TcCoe Idealize.ShloMosaic.Tactic Cert.Grouped
open Idealize.ShloMosaic.Pipeline (Dat Cfg Window BodyObligation cellOf)

variable (m : (ℓ : Loc nD τ sig) → Buf (Elt Ideal) ℓ)

/-! The schedule of the kernel is the one that the lemmas on schedules speak of. -/

/-- An entry's pair, in the schedule's own terms. -/
theorem code_eq (c : Dev nD) (w : Fin 23) : code m c w = pairAt (bitAt m c) w := rfl
/-- An entry's tile, in the schedule's own terms. -/
theorem tile_eq (c : Dev nD) (w : Fin 23) : tileOf m c w = tileAt (bitAt m c) w := rfl
/-- An entry's expert, in the schedule's own terms. -/
theorem expert_eq (c : Dev nD) (w : Fin 23) : expertOf m c w = expertAt (bitAt m c) w := rfl

attribute [local irreducible] tbl V tileOf expertOf code

/-- The rows of a tile are those whose number divided by 256 is the tile. -/
theorem rowIn_div (n : ℕ) (r : Fin 256) (hn : n < 16) : (rowIn n r).val / 256 = n := by
  have := r.isLt; rw [rowIn_val n r hn]; omega

section
variable (hk : ∀ c r, keyOf m c r < 8)
include hk

/-- Where a tile starts, no row of it has an expert before the entry's: the block holds the entry's own rows. -/
theorem block_start (w : Fin 23) (hs : startsTile m 0 w) (r : Fin 256) :
    blockAt m 0 w r = if exOf m 0 (rowIn (tileOf m 0 w) r) = expertOf m 0 w then rowVal m 0 (permOf m 0 (rowIn (tileOf m 0 w) r)) else 0 := by
  have hq := rowIn_div (tileOf m 0 w) r (tileOf_lt m 0 w)
  have h := rows_start (ex_mono m 0) (ex_lt m hk 0) (bit_meets m hk 0) (w := w) (by rw [← code_eq]; exact hs.1)
    (fun h0 => by rw [← tile_eq, ← tile_eq]; exact hs.2 h0) (rowIn (tileOf m 0 w) r) (by rw [← tile_eq]; exact hq)
  rw [← expert_eq] at h
  unfold blockAt
  exact if_congr ⟨fun h' => le_antisymm h' h, fun h' => h'.le⟩ rfl rfl

/-- An entry that starts no tile goes on with the tile of the entry before it. -/
theorem same_tile (w : Fin 23) (hs : ¬ startsTile m 0 w) : 0 < w.val ∧ ∀ h : w.val - 1 < 23, tileOf m 0 ⟨w.val - 1, h⟩ = tileOf m 0 w := by
  by_cases hb : bitAt m 0 (code m 0 w) = 1#1
  · by_cases h0 : 0 < w.val
    · refine ⟨h0, fun h' => ?_⟩
      by_contra hne
      exact hs ⟨hb, fun _ e => hne e.symm⟩
    · exact absurd ⟨hb, fun h' => absurd h' h0⟩ hs
  · rw [code_eq] at hb
    obtain ⟨h0, h⟩ := idle_pos (ex_mono m 0) (ex_lt m hk 0) (bit_meets m hk 0) hb
    refine ⟨h0, fun h' => ?_⟩
    rw [tile_eq, tile_eq, (h h').1]
    exact (if_neg hb).symm

/-- The block of an entry that starts no tile is the block before it, with the rows of the entry's own expert added when its pair occurs. -/
theorem block_next (w : Fin 23) (hs : ¬ startsTile m 0 w) (h : w.val - 1 < 23) (r : Fin 256) :
    blockAt m 0 w r = (blockAt m 0 ⟨w.val - 1, h⟩ r
      + if bitAt m 0 (code m 0 w) = 1#1 ∧ exOf m 0 (rowIn (tileOf m 0 w) r) = expertOf m 0 w
        then rowVal m 0 (permOf m 0 (rowIn (tileOf m 0 w) r)) else 0 : EReal) := by
  obtain ⟨h0, ht⟩ := same_tile m hk w hs
  have ht := ht h
  have hq := rowIn_div (tileOf m 0 w) r (tileOf_lt m 0 w)
  unfold blockAt
  rw [ht]
  by_cases hb : bitAt m 0 (code m 0 w) = 1#1
  · have h' := rows_step (ex_mono m 0) (ex_lt m hk 0) (bit_meets m hk 0) (w := w) (by rw [← code_eq]; exact hb) h0
      (by rw [← tile_eq, ← tile_eq]; exact ht) (rowIn (tileOf m 0 w) r) (by rw [← tile_eq]; exact hq)
    rw [← expert_eq, ← expert_eq] at h'
    generalize exOf m 0 (rowIn (tileOf m 0 w) r) = x at h' ⊢
    generalize expertOf m 0 w = b at h' ⊢
    generalize expertOf m 0 ⟨w.val - 1, _⟩ = a at h' ⊢
    obtain ⟨hab, hx⟩ := h'
    by_cases h1 : x ≤ a
    · rw [if_pos (by omega), if_pos h1, if_neg (by omega), add_zero]
    · rw [if_neg h1, zero_add]
      exact if_congr ⟨fun h2 => ⟨hb, by omega⟩, fun h2 => by omega⟩ rfl rfl
  · have hb' := hb
    rw [code_eq] at hb'
    obtain ⟨_, hi⟩ := idle_pos (ex_mono m 0) (ex_lt m hk 0) (bit_meets m hk 0) hb'
    have h15 : tileOf m 0 w = 15 := by rw [tile_eq]; exact if_neg hb'
    have h7 : expertOf m 0 w = 7 := by rw [expert_eq]; exact if_neg hb'
    have h2 := (hi h).2 (rowIn (tileOf m 0 w) r) (by rw [hq, h15])
    rw [← expert_eq] at h2
    have h3 := ex_lt m hk 0 (rowIn (tileOf m 0 w) r)
    rw [if_pos h2, if_pos (by rw [h7]; omega), if_neg (fun h4 : _ ∧ _ => hb h4.1), add_zero]

/-- A point leaves its entry's block, whatever it finds where a tile starts, and the entry before's block elsewhere. -/
theorem outStep_block (hO : Ok m) (c : Dev nD) (t : Fin (cfgM m hO).N) (d : Vec Ideal S256x1 .f32)
    (hd : ¬ startsTile m 0 (itemAt m hO t) → ∀ h : (itemAt m hO t).val - 1 < 23, ∀ r : Fin 256, d (ix2 r (0 : Fin 1)) = blockAt m c ⟨(itemAt m hO t).val - 1, h⟩ r)
    (r : Fin 256) : (outStep m hO c t d) (ix2 r (0 : Fin 1)) = blockAt m c (itemAt m hO t) r := by
  obtain rfl : c = 0 := Subsingleton.elim (α := Fin 1) c 0
  refine (outStep_at m hk hO 0 t d r).trans ?_
  by_cases hs : startsTile m 0 (itemAt m hO t)
  · rw [if_pos ((firstBit_iff m 0 _).2 hs), zero_add, block_start m hk _ hs r]
    exact if_congr (and_iff_right hs.1) rfl rfl
  · have h : (itemAt m hO t).val - 1 < 23 := by have := (itemAt m hO t).isLt; omega
    rw [if_neg (fun h' => hs ((firstBit_iff m 0 _).1 h')), hd hs h r]
    exact (block_next m hk _ hs h r).symm

/-- The last entry of a tile has met every row of it. -/
theorem block_last (w : Fin 23) (h0 : ∀ h : w.val + 1 < 23, tileOf m 0 ⟨w.val + 1, h⟩ ≠ tileOf m 0 w) (r : Fin 256) :
    blockAt m 0 w r = rowVal m 0 (permOf m 0 (rowIn (tileOf m 0 w) r)) := by
  have hq := rowIn_div (tileOf m 0 w) r (tileOf_lt m 0 w)
  have h := rows_last (ex_mono m 0) (ex_lt m hk 0) (bit_meets m hk 0) (w := w) (fun h => by rw [← tile_eq, ← tile_eq]; exact h0 h)
    (rowIn (tileOf m 0 w) r) (by rw [← tile_eq]; exact hq)
  rw [← expert_eq] at h
  unfold blockAt
  exact if_pos h

end

end Cert.KernelIdeal.Gen
-- ==== Proof.KernelIdeal.Window.lean ====
module

public import proofs.«01_k».proof.Proof.KernelIdeal.Blocks

/-! The output's window under any tables: when it is written back, when a point leaves it alone, what a point finds in it. -/

@[expose] public section

set_option maxRecDepth 16384

noncomputable section

namespace Cert.KernelIdeal.Gen

open Idealize.ShloMosaic Idealize.ShloMosaic.TcCoe Idealize.ShloMosaic.Tactic Cert.Grouped
open Idealize.SL Idealize.SL.RA
open Idealize.ShloMosaic.Pipeline (Dat Cfg Window BodyObligation cellOf)

variable {F : FTy → Type} [FloatOps F]

/-- The grid has one axis: a point's coordinate is its number. -/
theorem item_val (t : Fin grid0.N) : (item (grid0.coords t)).val = t.val := by
  revert t; decide

/-- There are 23 grid points. -/
theorem points (a : (pcfg0 (F := F)).Adm) : (cfg0 a).N = 23 := rfl

section
variable (a : (pcfg0 (F := F)).Adm) (tile : Fin 23 → ℕ) (htile : ∀ w, ((a.1 0 : IVec S4x23 32) (ix2 0 w)).toNat = tile w)
include htile

/-- The output window stands at the tile of its entry. -/
theorem place_at (t : Fin (cfg0 a).N) : ((cfg0 a).win 6).index t = ![tile (item (grid0.coords t)), 0] := at_6 a t _ (htile _)

/-- The output window moves between two points just when their tiles differ. -/
theorem place_ne (t t' : Fin (cfg0 a).N) : ((cfg0 a).win 6).index t' ≠ ((cfg0 a).win 6).index t ↔ tile (item (grid0.coords t')) ≠ tile (item (grid0.coords t)) := by
  rw [place_at a tile htile t, place_at a tile htile t']
  refine not_congr ⟨fun h => congrFun h (0 : Fin 2), fun h => by rw [h]⟩

/-- The block is written back at the last point of each run of points at one tile. -/
theorem flush_6 (t : Fin (cfg0 a).N) : ((cfg0 a).win 6).flush t = true ↔
    ∀ h : (item (grid0.coords t)).val + 1 < 23, tile ⟨(item (grid0.coords t)).val + 1, h⟩ ≠ tile (item (grid0.coords t)) := by
  have hv := item_val t
  have hN : (cfg0 a).N = 23 := rfl
  have ht := t.isLt
  have e : ((cfg0 a).win 6).flush t = (true && (decide (t.val + 1 = (cfg0 a).N) || decide (∃ h : t.val + 1 < (cfg0 a).N, ((cfg0 a).win 6).index ⟨t.val + 1, h⟩ ≠ ((cfg0 a).win 6).index t))) := rfl
  rw [e, Bool.true_and, Bool.or_eq_true, decide_eq_true_iff, decide_eq_true_iff]
  constructor
  · rintro (h | ⟨h, hne⟩) h'
    · omega
    · rw [place_ne a tile htile] at hne
      have e2 : item (grid0.coords ⟨t.val + 1, h⟩) = ⟨(item (grid0.coords t)).val + 1, h'⟩ := Fin.ext ((item_val _).trans (congrArg (· + 1) hv.symm))
      rw [e2] at hne
      exact hne
  · intro h
    by_cases h' : t.val + 1 < (cfg0 a).N
    · refine .inr ⟨h', (place_ne a tile htile _ _).2 ?_⟩
      have h2 : (item (grid0.coords t)).val + 1 < 23 := by omega
      have e2 : item (grid0.coords ⟨t.val + 1, h'⟩) = ⟨(item (grid0.coords t)).val + 1, h2⟩ := Fin.ext ((item_val _).trans (congrArg (· + 1) hv.symm))
      rw [e2]
      exact h h2
    · exact .inl (by omega)
end

/-- A guarded read of the table at a cell inside it. -/
theorem cell_at (x : IVec S4x23 32) (off : Fin 2 → ℕ) (k : Fin 4) (w : Fin 23) (h : ∀ a, off a + S1x1.size a ≤ S4x23.size a) (h0 : off 0 = k.val) (h1 : off 1 = w.val) :
    (if h : ∀ a, off a + 1 ≤ S4x23.size a then x (fun a => ⟨off a, h a⟩) else default) = x (ix2 k w) := by
  have h' : ∀ a, off a + 1 ≤ S4x23.size a := fun a => by
    match a with
    | ⟨0, _⟩ => exact h 0
    | ⟨1, _⟩ => exact h 1
  rw [dif_pos h']
  refine congrArg x (funext fun d => Fin.ext ?_)
  match d with
  | ⟨0, _⟩ => exact h0
  | ⟨1, _⟩ => exact h1

/-- The words that the idle test reads are the schedule's rows 2 and 3. -/
theorem atD_3 (pf : pre0.Contents (Elt F)) (i : grid0.Coords) : (pf.atD 0 (k0_off3 i) : BitVec 32) = (pf 0 : IVec S4x23 32) (ix2 2 (item i)) :=
  cell_at (pf 0) (k0_off3 i) 2 (item i) (k0_off3_inb i) rfl (cell_word i)
/-- The word of the schedule that the body's condition reads. -/
theorem atD_4 (pf : pre0.Contents (Elt F)) (i : grid0.Coords) : (pf.atD 0 (k0_off4 i) : BitVec 32) = (pf 0 : IVec S4x23 32) (ix2 3 (item i)) :=
  cell_at (pf 0) (k0_off4 i) 3 (item i) (k0_off4_inb i) rfl (cell_word i)

/-- A point leaves the output's buffer alone when it neither starts a tile nor meets a pair that occurs. -/
theorem idle_6 (a : (pcfg0 (F := F)).Adm) (t : Fin (cfg0 a).N) (p b : BitVec 32)
    (h3 : (a.1 0 : IVec S4x23 32) (ix2 2 (item (grid0.coords t))) = p) (h4 : (a.1 0 : IVec S4x23 32) (ix2 3 (item (grid0.coords t))) = b) :
    (cfg0 a).idle 6 (grid0.coords t) = (!(k0_cond1 p == 1#1) && !(k0_cond2 b == 1#1)) := by
  have e3 := (atD_3 a.1 (grid0.coords t)).trans h3
  have e4 := (atD_4 a.1 (grid0.coords t)).trans h4
  subst e3 e4
  rfl

variable (a : (pcfg0 (F := F)).Adm) (c : Dev nD) (dat : Dat τ (Elt F) Unit ℕ (UR sig nD τ) ℕ (cfg0 a) c)

/-- An idle point leaves the output block as the data says. -/
theorem kept_6 (t : Fin (cfg0 a).N) (d) : dat.kept 6 t d = dat.after 6 t := rfl

/-- What a point finds where the point before it did not write the block back. -/
theorem before_6 (t t' : Fin (cfg0 a).N) (ht : t.val ≠ 0) (ht' : t'.val = t.val - 1) (hf : ((cfg0 a).win 6).flush t' = false) (d) :
    dat.before 6 t d = match (cfg0 a).idle 6 (grid0.coords t') with | true => dat.before 6 t' d | false => dat.after 6 t' := by
  have hl : t.val - 1 < (cfg0 a).N := Nat.lt_of_le_of_lt (Nat.sub_le _ _) t.isLt
  obtain rfl : t' = ⟨t.val - 1, hl⟩ := Fin.ext ht'
  rw [dat.before_of_pos 6 t ht (Pipeline.Window.fetch_out _ rfl t) d, hf, if_neg Bool.false_ne_true]
  rfl

end Cert.KernelIdeal.Gen
-- ==== Proof.KernelIdeal.Exact.lean ====
module

public import proofs.«01_k».proof.Proof.KernelIdeal.Steps
public import proofs.«01_k».proof.Proof.KernelIdeal.Window

/-! The body's obligation with the output's contents in closed form. -/

@[expose] public section

set_option maxRecDepth 16384

noncomputable section

namespace Cert.KernelIdeal.Gen

open Idealize.ShloMosaic Idealize.ShloMosaic.TcCoe Idealize.ShloMosaic.Tactic Cert.Grouped
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The output's buffer after each point. -/
def blocks (hO : Ok m) (c : Dev nD) : Outs m hO := fun t => (fun y : S256x1.Idx => blockAt m c (itemAt m hO t) (y 0) : Vec Ideal S256x1 .f32)

/-- A place in an output block is a row's. -/
theorem col_256 (y : S256x1.Idx) : y = ix2 (y 0) (0 : Fin 1) := by
  refine funext fun d => ?_
  match d with
  | ⟨0, _⟩ => rfl
  | ⟨1, _⟩ => exact Subsingleton.elim (α := Fin 1) _ _

attribute [local irreducible] tbl V tileOf expertOf code

/-- An output block is written back at the last entry of its tile. -/
theorem flush_at (hO : Ok m) (t : Fin (cfgM m hO).N) : ((cfgM m hO).win 6).flush t = true ↔
    ∀ h : (itemAt m hO t).val + 1 < 23, tileOf m 0 ⟨(itemAt m hO t).val + 1, h⟩ ≠ tileOf m 0 (itemAt m hO t) :=
  flush_6 (adm m hO) (tileOf m 0) (tile_nat m) t

/-- The third row of the schedule: whether an entry is the first of its tile. -/
theorem row_first (w : Fin 23) : (tbl m 0 : IVec S4x23 32) (ix2 2 w) = (firstBit m 0 w).setWidth 32 := by
  rw [tbl_eq]; exact sched_first m 0 w
/-- The fourth row of the schedule: whether an entry's tile and expert share a row. -/
theorem row_meets (w : Fin 23) : (tbl m 0 : IVec S4x23 32) (ix2 3 w) = (bitAt m 0 (code m 0 w)).setWidth 32 := by
  rw [tbl_eq]; exact sched_meets m 0 w

/-- A point is idle just when its entry is padding. -/
theorem idle_at (hO : Ok m) (t : Fin (cfgM m hO).N) : (cfgM m hO).idle 6 (grid0.coords t) = true ↔ bitAt m 0 (code m 0 (itemAt m hO t)) ≠ 1#1 := by
  rw [idle_6 (adm m hO) t _ _ (row_first m _) (row_meets m _), cond1_bit, cond2_bit]
  have h := firstBit_iff m 0 (itemAt m hO t)
  unfold startsTile at h
  generalize bitAt m 0 (code m 0 (itemAt m hO t)) = b at h ⊢
  generalize firstBit m 0 (itemAt m hO t) = p at h ⊢
  rw [Bool.and_eq_true, Bool.not_eq_true', Bool.not_eq_true', beq_eq_false_iff_ne, beq_eq_false_iff_ne]
  exact ⟨fun h' => h'.2, fun h' => ⟨fun hp => h' (h.1 hp).1, h'⟩⟩

section
variable (hk : ∀ c r, keyOf m c r < 8)
include hk

/-- Where a tile goes on, a point finds the block of the entry before its own. -/
theorem before_block (hO : Ok m) (c : Dev nD) (n : ℕ) : ∀ t : Fin (cfgM m hO).N, t.val = n → ¬ startsTile m 0 (itemAt m hO t) →
    ∀ (d : Vec Ideal S256x1 .f32) (h : (itemAt m hO t).val - 1 < 23) (r : Fin 256),
      ((datsOf m hO (blocks m hO) 0 c).before 6 t d : Vec Ideal S256x1 .f32) (ix2 r (0 : Fin 1)) = blockAt m c ⟨(itemAt m hO t).val - 1, h⟩ r := by
  induction n with
  | zero =>
    intro t ht hs
    have h0 := (same_tile m hk _ hs).1
    have hv := item_val t
    exact absurd h0 (by show ¬ 0 < (item (grid0.coords t)).val; omega)
  | succ n ih =>
    intro t ht hs d h r
    have hlt : n < (cfgM m hO).N := by have := t.isLt; omega
    have hv : (itemAt m hO t).val = n + 1 := (item_val t).trans ht
    have hv' : (itemAt m hO ⟨n, hlt⟩).val = n := item_val ⟨n, hlt⟩
    have hw : (⟨(itemAt m hO t).val - 1, h⟩ : Fin 23) = itemAt m hO ⟨n, hlt⟩ := Fin.ext (by show (itemAt m hO t).val - 1 = _; omega)
    have ht2 := (same_tile m hk _ hs).2 h
    rw [hw] at ht2 ⊢
    have hf : ((cfgM m hO).win 6).flush ⟨n, hlt⟩ = false := by
      rw [← Bool.not_eq_true, flush_at m hO]
      intro h'
      have h23 : (itemAt m hO ⟨n, hlt⟩).val + 1 < 23 := by have := (itemAt m hO t).isLt; omega
      have e : (⟨(itemAt m hO ⟨n, hlt⟩).val + 1, h23⟩ : Fin 23) = itemAt m hO t := Fin.ext (by show (itemAt m hO ⟨n, hlt⟩).val + 1 = _; omega)
      have := h' h23
      rw [e] at this
      exact this ht2.symm
    have hb := before_6 (adm m hO) c (datsOf m hO (blocks m hO) 0 c) t ⟨n, hlt⟩ (by omega) (by show n = t.val - 1; omega) hf d
    refine (congrFun hb (ix2 r (0 : Fin 1))).trans ?_
    by_cases hi : (cfgM m hO).idle 6 (grid0.coords ⟨n, hlt⟩) = true
    · have hbit := (idle_at m hO _).1 hi
      have hs' : ¬ startsTile m 0 (itemAt m hO ⟨n, hlt⟩) := fun h' => hbit h'.1
      have h3 : (itemAt m hO ⟨n, hlt⟩).val - 1 < 23 := by have := (itemAt m hO ⟨n, hlt⟩).isLt; omega
      have e := ih ⟨n, hlt⟩ rfl hs' d h3 r
      have e2 := block_next m hk _ hs' h3 r
      obtain rfl : c = 0 := Subsingleton.elim (α := Fin 1) c 0
      rw [if_neg (fun h4 : _ ∧ _ => hbit h4.1), add_zero] at e2
      have e3 : (match (cfgM m hO).idle 6 (grid0.coords ⟨n, hlt⟩) with
        | true => (datsOf m hO (blocks m hO) 0 0).before 6 ⟨n, hlt⟩ d | false => (datsOf m hO (blocks m hO) 0 0).after 6 ⟨n, hlt⟩) = (datsOf m hO (blocks m hO) 0 0).before 6 ⟨n, hlt⟩ d := by rw [hi]
      exact (congrFun e3 (ix2 r (0 : Fin 1))).trans (e.trans e2.symm)
    · rw [Bool.not_eq_true] at hi
      have e3 : (match (cfgM m hO).idle 6 (grid0.coords ⟨n, hlt⟩) with
        | true => (datsOf m hO (blocks m hO) 0 c).before 6 ⟨n, hlt⟩ d | false => (datsOf m hO (blocks m hO) 0 c).after 6 ⟨n, hlt⟩) = (datsOf m hO (blocks m hO) 0 c).after 6 ⟨n, hlt⟩ := by rw [hi]
      exact congrFun (e3.trans (after0_6 m hO (blocks m hO) c ⟨n, hlt⟩)) (ix2 r (0 : Fin 1))

/-- So the point leaves the closed form. -/
theorem leaves_block (hO : Ok m) (c : Dev nD) (t : Fin (cfgM m hO).N) (d : Vec Ideal S256x1 .f32) :
    outStep m hO c t ((datsOf m hO (blocks m hO) 0 c).before 6 t d) = blocks m hO c t := by
  refine funext fun y => ?_
  rw [col_256 y]
  exact outStep_block m hk hO c t _ (fun hs h r => before_block m hk hO c t.val t rfl hs d h r) (y 0)

/-- A padding entry leaves what it finds. -/
theorem idle_block (hO : Ok m) (c : Dev nD) (t : Fin (cfgM m hO).N) (hi : (cfgM m hO).idle 6 (grid0.coords t) = true) (d : Vec Ideal S256x1 .f32) :
    (datsOf m hO (blocks m hO) 0 c).before 6 t d = blocks m hO c t := by
  have hbit := (idle_at m hO t).1 hi
  have hs : ¬ startsTile m 0 (itemAt m hO t) := fun h' => hbit h'.1
  have h : (itemAt m hO t).val - 1 < 23 := by have := (itemAt m hO t).isLt; omega
  refine funext fun (y : S256x1.Idx) => ?_
  rw [col_256 y]
  refine (before_block m hk hO c t.val t rfl hs d h (y 0)).trans ?_
  have e2 := block_next m hk _ hs h (y 0)
  obtain rfl : c = 0 := Subsingleton.elim (α := Fin 1) c 0
  rw [if_neg (fun h4 : _ ∧ _ => hbit h4.1), add_zero] at e2
  exact e2.symm

/-- What a point returns of the output's buffer. -/
theorem leaves_out (hO : Ok m) (c : Dev nD) (t : Fin (cfgM m hO).N) (d : Vec Ideal S256x1 .f32) :
    owns (c : Thread nD τ) (ms0_6 m hO t) fullShare (outStep m hO c t ((datsOf m hO (blocks m hO) 0 c).before 6 t d))
      ⊢ ((datsOf m hO (blocks m hO) 0 c).leavesExact 6 t : sProp 𝕄) := by
  rw [leaves_block m hk hO c t d]
  have key : ∀ (a f : Bool) (_ : (cfgM m hO).idle 6 (grid0.coords t) = a) (_ : ((cfgM m hO).win 6).flush t = f),
      owns (c : Thread nD τ) (ms0_6 m hO t) fullShare (blocks m hO c t) ⊢ ((datsOf m hO (blocks m hO) 0 c).leavesExact 6 t : sProp 𝕄) := by
    intro a f ha hf
    unfold Dat.leavesExact
    rw [show (cfgM m hO).idle 6 ((cfgM m hO).grid.coords t) = a from ha, hf]
    cases a
    · exact Entails.of_eq rfl
    · cases f
      · have e := idle_block m hk hO c t ha d
        iintro H
        iexists d
        rw [e]
        iexact H
      · exact Entails.of_eq rfl
  exact key _ _ rfl rfl

/-- The body's obligation, the output's contents given. -/
theorem exact_obligation (hO : Ok m) (c : Dev nD) : BodyObligation (datsOf m hO (blocks m hO) 0 c) (defs₀ (F := Ideal)) Variants.none () Set.univ := fun t => by
  rw [bigSep_W0, bigSep_W0, defs₀_row m hO]
  exact triple_restated (sound_body_of m hO (blocks m hO) c t (fun d => (datsOf m hO (blocks m hO) 0 c).before 6 t d) _
    (fun d => leaves_out m hk hO c t d)) rfl .rfl fun _ => .rfl

end

end Cert.KernelIdeal.Gen
-- ==== Proof.KernelIdeal.Final.lean ====
module

public import proofs.«01_k».proof.Proof.KernelIdeal.Exact
public import proofs.«01_k».proof.Proof.KernelIdeal.Frame
public import Idealize.ShloMosaic.Lib.Pipeline.ValueKit
public import Idealize.ShloMosaic.Lib.Pipeline.Covers

/-! The kernel's output array after the run: every sorted row's score. -/

@[expose] public section

set_option maxRecDepth 16384

noncomputable section

namespace Cert.KernelIdeal.Gen

open Idealize.ShloMosaic Idealize.ShloMosaic.TcCoe Idealize.ShloMosaic.Tactic Cert.Grouped
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]
variable (a : (pcfg0 (F := F)).Adm) (tile : Fin 23 → ℕ) (htile : ∀ w, ((a.1 0 : IVec S4x23 32) (ix2 0 w)).toNat = tile w)
include htile

/-- Every tile of the output is written back, if the schedule lists every tile. -/
theorem covers_6 (hlisted : ∀ k, k < 16 → ∃ w, tile w = k) : ((cfg0 a).win 6).Covers := by
  refine Pipeline.Window.covers_of_index_surj _ rfl (fun d => ?_) (fun β => ?_)
  · match d with
    | ⟨0, _⟩ => exact (by decide : 0 < 256)
    | ⟨1, _⟩ => exact (by decide : 0 < 1)
  · have h0 : (β (0 : Fin 2)).val < 16 := lt_of_lt_of_eq (β (0 : Fin 2)).isLt (by show (4096 + 256 - 1) / 256 = 16; decide)
    have h1 : (β (1 : Fin 2)).val < 1 := lt_of_lt_of_eq (β (1 : Fin 2)).isLt (by show (1 + 1 - 1) / 1 = 1; decide)
    obtain ⟨w, hw⟩ := hlisted _ h0
    refine ⟨⟨w.val, w.isLt⟩, fun d => ?_⟩
    have e := place_at a tile htile ⟨w.val, w.isLt⟩
    have ew : item (grid0.coords ⟨w.val, w.isLt⟩) = w := Fin.ext (item_val _)
    rw [ew, hw] at e
    rw [e]
    match d with
    | ⟨0, _⟩ => rfl
    | ⟨1, _⟩ => show 0 = (β (1 : Fin 2)).val; omega

/-- The output array after the run, from what its blocks hold when they are written back. -/
theorem final_of (hlisted : ∀ k, k < 16 → ∃ w, tile w = k) (hlt : ∀ w, tile w < 16) (c : Dev nD) (dat : Dat τ (Elt F) Unit ℕ (UR sig nD τ) ℕ (cfg0 a) c)
    (G : Vec F S4096x1 .f32)
    (hG : ∀ t, ((cfg0 a).win 6).flush t = true → ∀ r : Fin 256,
      (dat.after 6 t : Vec F S256x1 .f32) (ix2 r (0 : Fin 1)) = G (ix2 (⟨(tile (item (grid0.coords t)) * 256 + r.val) % 4096, Nat.mod_lt _ (by decide)⟩ : Fin 4096) (0 : Fin 1))) :
    (dat.arrAt 6 (cfg0 a).N : Vec F S4096x1 .f32) = G := by
  refine dat.arrAt_eq_of_covers 6 G (covers_6 a tile htile hlisted) (fun t hf y => ?_)
  have hr := (y (0 : Fin 2)).isLt
  have hr' : (y (0 : Fin 2)).val < 256 := hr
  have hy : y = ix2 (⟨(y (0 : Fin 2)).val, hr'⟩ : Fin 256) (0 : Fin 1) := by
    refine funext fun d => ?_
    match d with
    | ⟨0, _⟩ => rfl
    | ⟨1, _⟩ => exact Subsingleton.elim (α := Fin 1) _ _
  have ht := hlt (item (grid0.coords t))
  have e := place_6 a t _ (place_at a tile htile t) ⟨(y (0 : Fin 2)).val, hr'⟩
    ⟨(tile (item (grid0.coords t)) * 256 + (y (0 : Fin 2)).val) % 4096, Nat.mod_lt _ (by decide)⟩ (Nat.mod_eq_of_lt (by omega))
  have h := hG t hf ⟨(y (0 : Fin 2)).val, hr'⟩
  rw [← e, ← hy] at h
  exact h

end

end Cert.KernelIdeal.Gen
-- ==== Proof.KernelIdeal.Unsort.lean ====
module

public import proofs.«01_k».proof.Proof.KernelIdeal.Offsets
public import proofs.«01_k».proof.Proof.Gen.KernelIdeal.Launch
public import Idealize.ShloMosaic.Lib.Routing.OpsOne

/-! The host's last step: the sorted scores scattered back to the rows they belong to. -/

@[expose] public section

set_option maxRecDepth 16384

noncomputable section

namespace Cert.KernelIdeal.Gen

open Idealize.ShloMosaic Idealize.ShloMosaic.TcCoe Idealize.ShloMosaic.Tactic Cert.Grouped

variable {F : FTy → Type} [FloatOps F]

/-- The start of score `q`'s write: the index word of `q`, down the column. -/
theorem start_row (idx : IVec S4096x1 32) (q : Fin 4096) :
    scatter_S4096x1_S4096x1_S4096x1_1_0_0_1.start (ValueIdx.ix2 q (0 : Fin 1)) idx 0 = (idx (ValueIdx.ix2 q (0 : Fin 1))).toInt :=
  congrArg (fun j => (idx j).toInt) (funext fun b => match b with | ⟨0, _⟩ => rfl | ⟨1, _⟩ => rfl)

/-- Update `(q, 0)` lands at `(r, 0)` just when the index word of `q`, read signed, is `r`. -/
theorem lands (idx : IVec S4096x1 32) (q r : Fin 4096) :
    scatter_S4096x1_S4096x1_S4096x1_1_0_0_1.resultIdx? (ValueIdx.ix2 q (0 : Fin 1)) idx = some (ValueIdx.ix2 r (0 : Fin 1))
      ↔ (idx (ValueIdx.ix2 q (0 : Fin 1))).toInt = (r.val : Int) := by
  have w0 : scatter_S4096x1_S4096x1_S4096x1_1_0_0_1.window (ValueIdx.ix2 q (0 : Fin 1)) 0 = 0 := rfl
  have w1 : scatter_S4096x1_S4096x1_S4096x1_1_0_0_1.window (ValueIdx.ix2 q (0 : Fin 1)) 1 = 0 := rfl
  have s1 : scatter_S4096x1_S4096x1_S4096x1_1_0_0_1.start (ValueIdx.ix2 q (0 : Fin 1)) idx 1 = 0 := rfl
  rw [Routing.resultIdx?_ix2, w0, w1, start_row, s1]
  simp

/-- A word that is a row's number, read signed. -/
theorem signed_row (p : Fin 4096) : (BitVec.ofNat 32 p.val).toInt = (p.val : Int) := by
  rw [BitVec.toInt_eq_toNat_of_lt (by rw [word_row]; have := p.isLt; omega), word_row]

/-- The scattered scores at the row the `q`-th sorted row came from: the `q`-th score. -/
theorem unsorted_at (p : Fin 4096 → Fin 4096) (hp : Function.Injective p) (i : IVec S4096 32) (hi : ∀ q, i (ix1 q) = BitVec.ofNat 32 (p q).val)
    (x0 upd : Vec F S4096x1 .f32) (q : Fin 4096) :
    Host.scatter scatter_S4096x1_S4096x1_S4096x1_1_0_0_1 (fun _ b => b) x0 (wrapped i) upd (ix2 (p q) (0 : Fin 1)) = upd (ix2 q (0 : Fin 1)) := by
  have hw : ∀ q, (wrapped i (ValueIdx.ix2 q (0 : Fin 1))).toInt = ((p q).val : Int) := fun q => by
    rw [show wrapped i (ValueIdx.ix2 q (0 : Fin 1)) = BitVec.ofNat 32 (p q).val from (congrArg (wrapped i) (ix2_eq q (0 : Fin 1)).symm).trans (wrapped_at i q (p q) (hi q)), signed_row]
  rw [ix2_eq (p q) (0 : Fin 1), ix2_eq q (0 : Fin 1)]
  refine Routing.scatter_set_hit _ x0 (wrapped i) upd _ _ (fun k hk => ?_) (ValueIdx.ix2 q (0 : Fin 1)) ((lands _ q (p q)).2 (hw q))
  have ek : k = ValueIdx.ix2 (k 0) (0 : Fin 1) := by
    refine funext fun d => ?_
    match d with
    | ⟨0, _⟩ => rfl
    | ⟨1, _⟩ => exact Subsingleton.elim (α := Fin 1) _ _
  rw [ek] at hk ⊢
  have h := (lands (wrapped i) (k 0) (p q)).1 hk
  rw [hw (k 0)] at h
  exact congrArg (fun y : Fin 4096 => upd (ValueIdx.ix2 y (0 : Fin 1))) (hp (Fin.ext (by exact_mod_cast h)))

/-- The host's last stretch, read at the result: the sorted scores scattered by the sorting permutation. -/
theorem tail_read (σ : Valuation τ sig (Elt F)) : (StableHlo.after hostOps1 σ (Proc.devRef .tc main_v77) : Vec F S4096x1 .f32)
    = Host.scatter scatter_S4096x1_S4096x1_S4096x1_1_0_0_1 (fun _ b => b) (broadcastInDim S4096x1 ![] bcast_S_S4096x1 (constant (F := F) S_ .f32 0x00000000#32))
        (wrapped (σ (Proc.devRef .tc main_v0) : IVec S4096 32)) (σ (Proc.devRef .tc main_v69) : Vec F S4096x1 .f32) := by
  after_reads_simp
  rfl

end Cert.KernelIdeal.Gen
-- ==== Proof.KernelIdeal.Result.lean ====
module

public import proofs.«01_k».proof.Proof.KernelIdeal.Exact
public import proofs.«01_k».proof.Proof.KernelIdeal.Final
public import proofs.«01_k».proof.Proof.KernelIdeal.Unsort

/-! The whole run over the extended reals: the result holds every row's score. -/

@[expose] public section

set_option maxRecDepth 16384

noncomputable section

namespace Cert.KernelIdeal.Gen

open Idealize.ShloMosaic Idealize.ShloMosaic.TcCoe Idealize.ShloMosaic.Tactic Cert.Grouped
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (hk : ∀ c r, keyOf m c r < 8)

/-- The scores in sorted order. -/
def sortedScores (c : Dev nD) : Vec Ideal S4096x1 .f32 := fun y : S4096x1.Idx => rowVal m c (permOf m c (y 0))

/-- The scores by row. -/
def scores (c : Dev nD) : Vec Ideal S4096x1 .f32 := fun y : S4096x1.Idx => rowVal m c (y 0)

/-- A place in a column of 4096 is a row's. -/
theorem row_of (y : S4096x1.Idx) : y = ix2 (y 0) (0 : Fin 1) := by
  refine funext fun d => ?_
  match d with
  | ⟨0, _⟩ => rfl
  | ⟨1, _⟩ => exact Subsingleton.elim (α := Fin 1) _ _

include hk in
/-- Every tile is listed in the schedule. -/
theorem listed (k : ℕ) (h : k < 16) : ∃ w, tileOf m 0 w = k := by
  obtain ⟨w, hw⟩ := tile_listed (ex_mono m 0) (ex_lt m hk 0) (bit_meets m hk 0) k h
  exact ⟨w, (tile_eq m 0 w).trans hw⟩

attribute [local irreducible] tbl V tileOf expertOf code

include hk in
/-- The output array after the run. -/
theorem array_6 (hO : Ok m) (c : Dev nD) : ((datsOf m hO (blocks m hO) 0 c).arrAt 6 (cfgM m hO).N : Vec Ideal S4096x1 .f32) = sortedScores m c := by
  obtain rfl : c = 0 := Subsingleton.elim _ _
  refine final_of (adm m hO) (tileOf m 0) (tile_nat m) (listed m hk) (tileOf_lt m 0) 0 (datsOf m hO (blocks m hO) 0 0) (sortedScores m 0) (fun t hf r => ?_)
  have h := (flush_at m hO t).1 hf
  refine (congrFun (after0_6 m hO (blocks m hO) 0 t) (ix2 r (0 : Fin 1))).trans ?_
  exact block_last m hk (itemAt m hO t) h r

set_option backward.isDefEq.respectTransparency.types false in
/-- The launch, with the output's contents in closed form. -/
theorem run_exact (hO : Ok m) (hk : ∀ c r, keyOf m c r < 8) : θ_run defs (onTc (τ := τ) (main (F := Ideal))) (s₀ m ρ) (fun r =>
    (Pipeline.FramePost (Pipeline.pin pcfgs fun _ => adm m hO) (datsOf m hO (blocks m hO)) (0 : Fin 1)
      (Pipeline.afterTail pcfgs (fun _ => adm m hO) (datsOf m hO (blocks m hO)) (0 : Fin 1) (V m) [hostOps1])) r ∧ r.2.sem = fun _ => 0) :=
  Pipeline.θ_run_frameP_around (Q' := _) pcfgs (fun _ => adm m hO) (datsOf m hO (blocks m hO)) (0 : Fin 1) launch0 defs₀ Variants.none m ρ main
    (hbody := fun c => (exact_obligation m hk hO c).loose) (hshare := fun c => (datsOf m hO (blocks m hO) 0 c).share_full fun _ => rfl)
    (howed := fun _ _ => rfl) (V₀ := V m) (opss := [hostOps1]) tail_sub tail_fresh tail_keep (hmain := hmain m Variants.none)
    (hA := A_eq m hO _) (hpf := V_pre m) (hΦ := fun _ _ => rfl)

/-- The windows' arrays are different buffers. -/
theorem arr_distinct : Function.Injective (Pipeline.arrRef spec0) := by
  have h : ∀ a b : Fin 7, Pipeline.arrRef spec0 a = Pipeline.arrRef spec0 b → a = b := by decide
  exact fun a b => h a b

/-- The buffers when the host's last stretch begins. -/
abbrev atTail (hO : Ok m) (c : Dev nD) : Valuation τ sig (Elt Ideal) :=
  Pipeline.withArrays spec0 c (V m c) fun w => (datsOf m hO (blocks m hO) 0 c).arrAt w (cfgM m hO).N

/-- The sorting permutation is still there when the last stretch begins. -/
theorem tail_v0 (hO : Ok m) (c : Dev nD) : atTail m hO c (Proc.devRef .tc main_v0) = VA m c (Proc.devRef .tc main_v0) :=
  (Pipeline.withArrays_of_ne spec0 c (V m c) _ main_v0 (by decide)).trans (V_v0 m c)

include hk in
/-- The output array when the last stretch begins: the scores in sorted order. -/
theorem tail_v69 (hO : Ok m) (c : Dev nD) : (atTail m hO c (Proc.devRef .tc main_v69) : Vec Ideal S4096x1 .f32) = sortedScores m c :=
  (Pipeline.withArrays_arr spec0 arr_distinct c (V m c) (fun w => (datsOf m hO (blocks m hO) 0 c).arrAt w (cfgM m hO).N) (6 : Fin 7)).trans (array_6 m hk hO c)

include hk in
/-- The result: every row's score at its own row. -/
theorem tail_v77 (hO : Ok m) (c : Dev nD) :
    (StableHlo.after hostOps1 (atTail m hO c) (Proc.devRef .tc main_v77) : Vec Ideal S4096x1 .f32) = scores m c := by
  rw [tail_read, tail_v69 m hk hO c, tail_v0]
  funext y
  obtain ⟨q, hq⟩ := ranked_surjective (keyOf m c) (y 0)
  have hy : y = ix2 (permOf m c q) (0 : Fin 1) := by
    refine funext fun d => ?_
    match d with
    | ⟨0, _⟩ => exact hq.symm
    | ⟨1, _⟩ => exact Subsingleton.elim (α := Fin 1) _ _
  rw [hy]
  refine (unsorted_at (permOf m c) (ranked_injective (keyOf m c)) (VA m c (Proc.devRef .tc main_v0) : IVec S4096 32) (vA_v0 m hk c) _ (sortedScores m c) q).trans ?_
  unfold sortedScores scores
  rfl

/-- A buffer that the last stretch doesn't write and that is no window's array keeps what it held before the launch. -/
theorem tail_other (hO : Ok m) (c : Dev nD) (b : Ref sig .tc) (hb : ∀ w : Fin 7, Pipeline.arrRef spec0 w ≠ b) (hw : b ∉ tailWrites) :
    StableHlo.after hostOps1 (atTail m hO c) (Proc.devRef .tc b) = V m c (Proc.devRef .tc b) := by
  rw [StableHlo.after_of_forall_not_mem hostOps1 _ fun op hop h => hw (tail_T _ (List.mem_singleton.2 rfl) op hop b h)]
  exact Pipeline.withArrays_of_ne spec0 c (V m c) _ b hb

set_option backward.isDefEq.respectTransparency.types false in
include hk in
/-- The run: the result holds the scores, and the arguments are unchanged. -/
theorem run_scores : θ_run defs (onTc (τ := τ) (main (F := Ideal))) ⟨m, fun _ => 0, ρ⟩ (fun r => ∀ c : Dev nD,
      r.2.mem ((c.tc : Thread nD τ).loc main_v77) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hO := ok_tbl m
  refine (θ_run defs _ _).mono (fun r h => ?_) (run_exact m ρ hO hk)
  obtain ⟨h, -⟩ := h
  have hr : ∀ (c : Dev nD) (b : Ref sig .tc), b ∈ Pipeline.restRefs sig spec0 →
      r.2.mem ((c.tc : Thread nD τ).loc b) = StableHlo.after hostOps1 (atTail m hO c) (Proc.devRef .tc b) := fun c b hb => (h c).2 b hb
  have hi : ∀ (c : Dev nD) (w : Fin 7), ((cfgM m hO).win w).isOut = false →
      r.2.mem (((cfgM m hO).spec w).arr.view.loc (c.tc : Thread nD τ)) = V m c (Proc.devRef .tc (Pipeline.arrRef spec0 w)) := fun c w hw =>
    (Pipeline.FramePost.in_eq h c w hw).trans (A_eq m hO (blocks m hO) c w)
  refine fun c => ⟨?_, ?_, ?_, ?_, ?_, ?_, ?_, ?_⟩
  · exact (hr c main_v77 (by decide)).trans (tail_v77 m hk hO c)
  · exact ((hr c main_arg0 (by decide)).trans (tail_other m hO c main_arg0 (by decide) (by decide))).trans (V_main_arg0 m c)
  · exact ((hr c main_arg1 (by decide)).trans (tail_other m hO c main_arg1 (by decide) (by decide))).trans (V_main_arg1 m c)
  · exact ((hr c main_arg2 (by decide)).trans (tail_other m hO c main_arg2 (by decide) (by decide))).trans (V_main_arg2 m c)
  · exact (hi c 2 rfl).trans (V_main_arg3 m c)
  · exact ((hr c main_arg4 (by decide)).trans (tail_other m hO c main_arg4 (by decide) (by decide))).trans (V_main_arg4 m c)
  · exact (hi c 3 rfl).trans (V_main_arg5 m c)
  · exact ((hr c main_arg6 (by decide)).trans (tail_other m hO c main_arg6 (by decide) (by decide))).trans (V_main_arg6 m c)

end Cert.KernelIdeal.Gen
-- ==== Proof.Exchange.lean ====
module

public import Mathlib.Data.EReal.Operations
public import Mathlib.Algebra.BigOperators.Ring.Finset
public import Mathlib.Algebra.BigOperators.Group.Finset.Sigma
public import Mathlib.Tactic.Ring

/-! The one algebraic step between the kernel and the reference: over real numbers the two ways of adding up a bilinear form agree. -/

@[expose] public section

namespace Cert.Grouped

/-- A sum of real numbers, summed as extended reals. -/
theorem coe_total {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- The bilinear form of two real vectors, added up along either side first. -/
theorem exchange {n : ℕ} (p z : Fin n → ℝ) (w : Fin n → Fin n → ℝ) :
    ∑ i, (p i : EReal) * ∑ j, (z j : EReal) * (w i j : EReal) = ∑ j, (∑ i, (p i : EReal) * (w i j : EReal)) * (z j : EReal) := by
  simp only [← EReal.coe_mul, ← coe_total]
  congr 1
  simp only [Finset.mul_sum, Finset.sum_mul]
  rw [Finset.sum_comm]
  exact Finset.sum_congr rfl fun j _ => Finset.sum_congr rfl fun i _ => by ring

end Cert.Grouped
-- ==== Proof.Reference.lean ====
module

public import proofs.«01_k».proof.Proof.Gen.ReferenceIdeal.Run
public import Idealize.ShloMosaic.Lib.Pointwise
public import Idealize.ShloMosaic.Lib.Tactic.CleanTypes

/-! The reference's result at a row. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

/-- The reference's score of one row: the projected source row through the bilinear form, against the target row. -/
def refScore (pr zd : Fin 768 → EReal) (wb : Fin 768 → Fin 768 → EReal) (b : EReal) : EReal :=
  ∑ j, (∑ i, pr i * wb i j) * zd j + b

/-- A source row projected by one expert. -/
def projected (z : Fin 768 → EReal) (w : Fin 768 → Fin 768 → EReal) (b : Fin 768 → EReal) (i : Fin 768) : EReal := ∑ k, z k * w i k + b i

/-- A word's choice between two values, both words being small numbers. -/
theorem pick (k j : ℕ) (hk : k < 8) (hj : j < 8) (x y : EReal) :
    Scalar.select (IntOp.cmpi .eq (BitVec.ofNat 32 k) (BitVec.ofNat 32 j)) x y = if k = j then x else y := by
  by_cases h : k = j
  · subst h
    rw [if_pos rfl]
    simp [Scalar.select, IntOp.cmpi]
  · have hne : BitVec.ofNat 32 k ≠ BitVec.ofNat 32 j := fun e => by
      have := congrArg BitVec.toNat e
      rw [BitVec.toNat_ofNat, BitVec.toNat_ofNat] at this
      omega
    rw [if_neg h]
    simp [Scalar.select, IntOp.cmpi, beq_eq_false_iff_ne.2 hne]

/-- The chain of choices the reference makes for a row ends in the row's own expert. -/
theorem chain (k : Fin 8) (f : Fin 8 → EReal) (w : BitVec 32) (hw : w = BitVec.ofNat 32 k.val) :
    Scalar.select (IntOp.cmpi .eq w 7#32) (f 7) (Scalar.select (IntOp.cmpi .eq w 6#32) (f 6) (Scalar.select (IntOp.cmpi .eq w 5#32) (f 5)
      (Scalar.select (IntOp.cmpi .eq w 4#32) (f 4) (Scalar.select (IntOp.cmpi .eq w 3#32) (f 3) (Scalar.select (IntOp.cmpi .eq w 2#32) (f 2)
        (Scalar.select (IntOp.cmpi .eq w 1#32) (f 1) (Scalar.select (IntOp.cmpi .eq w 0#32) (f 0) 0))))))) = f k := by
  subst hw
  rw [pick k.val 7 k.isLt (by decide), pick k.val 6 k.isLt (by decide), pick k.val 5 k.isLt (by decide), pick k.val 4 k.isLt (by decide),
    pick k.val 3 k.isLt (by decide), pick k.val 2 k.isLt (by decide), pick k.val 1 k.isLt (by decide), pick k.val 0 k.isLt (by decide)]
  fin_cases k <;> rfl

set_option maxHeartbeats 4000000 in
/-- The reference's result at a row. -/
theorem result_at (m : (ℓ : Loc nD τ sig) → Buf (Elt Ideal) ℓ) (c : Dev nD) (r : Fin 4096) (k : Fin 8)
    (hk : (m ((c.tc : Thread nD τ).loc main_arg2) : IVec S4096 32) (ix1 r) = BitVec.ofNat 32 k.val) :
    ((res_main_v112 (F := Ideal) m c : Vec Ideal S4096x1 .f32) (ix2 r (0 : Fin 1)) : EReal)
      = refScore (projected (fun x => (m ((c.tc : Thread nD τ).loc main_arg0) : Vec Ideal S4096x768 .f32) (ix2 r x))
          (fun i x => (m ((c.tc : Thread nD τ).loc main_arg3) : Vec Ideal S8x768x768 .f32) (ix3 k i x))
          (fun i => (m ((c.tc : Thread nD τ).loc main_arg4) : Vec Ideal S8x768 .f32) (ix2 k i)))
        (fun j => (m ((c.tc : Thread nD τ).loc main_arg1) : Vec Ideal S4096x768 .f32) (ix2 r j))
        (fun i j => (m ((c.tc : Thread nD τ).loc main_arg5) : Vec Ideal S1x768x768 .f32) (ix3 (0 : Fin 1) i j))
        ((m ((c.tc : Thread nD τ).loc main_arg6) : Vec Ideal S1 .f32) (ix1 (0 : Fin 1))) := by
  unfold res_main_v112 refScore
  clean_types
  pointwise
  refine congrArg (fun y : EReal => y + _) (Finset.sum_congr rfl fun j _ => congrArg (fun y : EReal => y * _) (Finset.sum_congr rfl fun i _ => congrArg (fun y : EReal => y * _) ?_))
  exact chain k (fun e => projected (fun x => (m ((c.tc : Thread nD τ).loc main_arg0) : Vec Ideal S4096x768 .f32) (ix2 r x))
    (fun i x => (m ((c.tc : Thread nD τ).loc main_arg3) : Vec Ideal S8x768x768 .f32) (ix3 e i x))
    (fun i => (m ((c.tc : Thread nD τ).loc main_arg4) : Vec Ideal S8x768 .f32) (ix2 e i)) i) _ hk

end Cert.ReferenceIdeal.Value
-- ==== Proof.Agree.lean ====
module

public import proofs.«01_k».proof.Proof.Exchange
public import proofs.«01_k».proof.Proof.Reference
public import proofs.«01_k».proof.Proof.KernelIdeal.Values

/-! The kernel's score of a row and the reference's are the same number. -/

@[expose] public section

set_option maxRecDepth 16384

noncomputable section

namespace Cert.Grouped

open Idealize.ShloMosaic
open Cert.KernelIdeal.Gen (rowScore)
open Cert.ReferenceIdeal.Value (refScore projected)

/-- A projected row of real numbers is a row of real numbers. -/
theorem projected_real (z : Fin 768 → EReal) (w : Fin 768 → Fin 768 → EReal) (b : Fin 768 → EReal)
    (hz : ∀ k, ∃ y : ℝ, z k = (y : EReal)) (hw : ∀ i k, ∃ y : ℝ, w i k = (y : EReal)) (hb : ∀ i, ∃ y : ℝ, b i = (y : EReal)) (i : Fin 768) :
    ∃ y : ℝ, projected z w b i = (y : EReal) := by
  choose z' hz using hz
  choose w' hw using hw
  choose b' hb using hb
  refine ⟨∑ k, z' k * w' i k + b' i, ?_⟩
  unfold projected
  rw [EReal.coe_add, coe_total, hb]
  refine congrArg (fun y : EReal => y + _) (Finset.sum_congr rfl fun k _ => ?_)
  rw [hz, hw, EReal.coe_mul]

/-- Of real numbers the two scores are equal, whatever the last bias is. -/
theorem scores_agree (zs zd : Fin 768 → EReal) (wp : Fin 768 → Fin 768 → EReal) (bp : Fin 768 → EReal) (wb : Fin 768 → Fin 768 → EReal) (b : EReal)
    (hs : ∀ k, ∃ y : ℝ, zs k = (y : EReal)) (hd : ∀ k, ∃ y : ℝ, zd k = (y : EReal)) (hp : ∀ i k, ∃ y : ℝ, wp i k = (y : EReal))
    (hb : ∀ i, ∃ y : ℝ, bp i = (y : EReal)) (hw : ∀ i k, ∃ y : ℝ, wb i k = (y : EReal)) :
    rowScore zs zd wp bp wb b = refScore (projected zs wp bp) zd wb b := by
  choose p hp using projected_real zs wp bp hs hp hb
  choose d hd using hd
  choose w hw using hw
  show ∑ i, projected zs wp bp i * ∑ j, zd j * wb i j + b = ∑ j, (∑ i, projected zs wp bp i * wb i j) * zd j + b
  simp only [hp, hd, hw]
  rw [exchange p d w]

end Cert.Grouped
-- ==== Proof.Finite.lean ====
module

public import proofs.«01_k».proof.Pre_routed_and_finite
public import Idealize.ShloMosaic.Lib.ReduceAll
public import Idealize.ShloMosaic.Lib.WordCmp
public import Idealize.ShloMosaic.PureOps.Ideal
public import Mathlib.Data.EReal.Basic

/-! What the precondition says: the expert indices are in range, and the floats but the last bias are real numbers. -/

@[expose] public section

set_option maxRecDepth 16384

noncomputable section

namespace Cert.Pre_routed_and_finite

open Idealize.ShloMosaic

/-- The shape relations the predicate's operations take. -/
theorem facts : Facts where
  bcast_S_S4096 := by decide
  reducesTo_S4096_S_d0 := by decide
  h_S_ := by decide
  bcast_S_S4096x768 := by decide
  reducesTo_S4096x768_S_d0_1 := by decide
  bcast_S_S8x768x768 := by decide
  reducesTo_S8x768x768_S_d0_1_2 := by decide
  bcast_S_S8x768 := by decide
  reducesTo_S8x768_S_d0_1 := by decide
  bcast_S_S1x768x768 := by decide
  reducesTo_S1x768x768_S_d0_1_2 := by decide

/-- A value below infinity in size is a real number. -/
theorem real_of_bit (x : Ideal .f32) (h : FloatOps.cmpf .olt (FloatOps.hostAbsf x) (FloatOps.ofBits (F := Ideal) .f32 0x7F800000#32) = 1#1) :
    ∃ y : ℝ, (x : EReal) = (y : EReal) := by
  have htop : Ideal.ofBits .f32 0x7F800000#32 = ⊤ := by simp [Ideal.ofBits, Ideal.ieee]
  change BitVec.ofBool (decide (max (x : EReal) (-(x : EReal)) < Ideal.ofBits .f32 0x7F800000#32)) = 1#1 at h
  rw [htop] at h
  have hlt : max (x : EReal) (-(x : EReal)) < ⊤ := by
    by_contra hn
    rw [decide_eq_false hn] at h
    exact absurd h (by decide)
  have h1 : (x : EReal) ≠ ⊤ := fun e => by
    have := (max_lt_iff.1 hlt).1
    rw [e] at this
    exact lt_irrefl _ this
  have h2 : (x : EReal) ≠ ⊥ := fun e => by
    have := (max_lt_iff.1 hlt).2
    rw [e, EReal.neg_bot] at this
    exact lt_irrefl _ this
  exact ⟨(x : EReal).toReal, (EReal.coe_toReal h1 h2).symm⟩

/-- A word that is at least 0 and below 8, read signed, is below 8. -/
theorem word_small (x : BitVec 32) (h : IntOp.andi (IntOp.cmpi .sge x 0#32) (IntOp.cmpi .slt x 8#32) = 1#1) : x.toNat < 8 := by
  rw [WordCmp.andi_sge_zero_slt_ofNat (k := 8) (by decide)] at h
  by_contra hn
  rw [decide_eq_false hn] at h
  exact absurd h (by decide)

open Facts in
/-- The predicate's one bit, taken apart. -/
theorem parts [self : Facts] (a0 a1 : FVec Ideal S4096x768 .f32) (a2 : IVec S4096 32) (a3 : FVec Ideal S8x768x768 .f32) (a4 : FVec Ideal S8x768 .f32) (a5 : FVec Ideal S1x768x768 .f32)
    (a6 : FVec Ideal S1 .f32) (h : fn (F := Ideal) a0 a1 a2 a3 a4 a5 a6 = fun _ => 1#1) :
    (∀ i, (a2 i).toNat < 8) ∧ (∀ i, ∃ y : ℝ, (a0 i : EReal) = (y : EReal)) ∧ (∀ i, ∃ y : ℝ, (a1 i : EReal) = (y : EReal))
      ∧ (∀ i, ∃ y : ℝ, (a3 i : EReal) = (y : EReal)) ∧ (∀ i, ∃ y : ℝ, (a4 i : EReal) = (y : EReal)) ∧ ∀ i, ∃ y : ℝ, (a5 i : EReal) = (y : EReal) := by
  have hz := congrFun h (fun d : Fin 0 => d.elim0)
  unfold fn fn_part1 at hz
  haveI : Subsingleton S_.Idx := ⟨fun x y => funext fun d : Fin 0 => d.elim0⟩
  obtain ⟨hz, h25⟩ := IntOp.andi_eq_one.1 hz
  obtain ⟨hz, h21⟩ := IntOp.andi_eq_one.1 hz
  obtain ⟨hz, h17⟩ := IntOp.andi_eq_one.1 hz
  obtain ⟨hz, h13⟩ := IntOp.andi_eq_one.1 hz
  obtain ⟨h5, h9⟩ := IntOp.andi_eq_one.1 hz
  exact ⟨fun i => word_small _ (Host.reduce_andi_eq_one _ _ _ _ _ h5 i (Subsingleton.elim _ _)),
    fun i => real_of_bit _ (Host.reduce_andi_eq_one _ _ _ _ _ h9 i (Subsingleton.elim _ _)),
    fun i => real_of_bit _ (Host.reduce_andi_eq_one _ _ _ _ _ h13 i (Subsingleton.elim _ _)),
    fun i => real_of_bit _ (Host.reduce_andi_eq_one _ _ _ _ _ h17 i (Subsingleton.elim _ _)),
    fun i => real_of_bit _ (Host.reduce_andi_eq_one _ _ _ _ _ h21 i (Subsingleton.elim _ _)),
    fun i => real_of_bit _ (Host.reduce_andi_eq_one _ _ _ _ _ h25 i (Subsingleton.elim _ _))⟩

end Cert.Pre_routed_and_finite
-- ==== Proof.lean ====
/- The assembly of the claims from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Result
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.SL.Sem

/-- The kernel leaves its arguments as they were and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference: no operation of it writes an argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the precondition holds, a row's expert is one of the eight. -/
theorem expert_small (m : (ℓ : Loc Cert.KernelIdeal.nD Cert.KernelIdeal.τ Cert.KernelIdeal.sig) → Buf (Elt Ideal) ℓ)
    (h : Cert.Pre_KernelIdeal_routed_and_finite (hPre_routed_and_finite := Cert.Pre_routed_and_finite.facts) m) (c : Dev Cert.KernelIdeal.nD) (r : Fin 4096) :
    Cert.KernelIdeal.Gen.keyOf m c r < 8 :=
  (Cert.Pre_routed_and_finite.parts (self := Cert.Pre_routed_and_finite.facts) _ _ _ _ _ _ _ (h c)).1 (ix1 r)

/-- Where the precondition holds and the arguments agree, the scores the kernel ends with are the reference's result. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_routed_and_finite (hPre_routed_and_finite := Cert.Pre_routed_and_finite.facts) m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Value.res_main_v112 (F := Ideal) m' c : Vec Ideal Cert.KernelIdeal.S4096x1 .f32) = Cert.KernelIdeal.Gen.scores m c := by
  obtain ⟨e0, e1, e2, e3, e4, e5, e6⟩ := e
  obtain ⟨h2, h0, h1, h3, h4, h5⟩ := Cert.Pre_routed_and_finite.parts (self := Cert.Pre_routed_and_finite.facts) _ _ _ _ _ _ _ (h c)
  funext y
  have hy : y = ix2 (y 0 : Fin 4096) (0 : Fin 1) := Cert.KernelIdeal.Gen.row_of y
  generalize (y 0 : Fin 4096) = r at hy
  subst hy
  have hlt := expert_small m h c r
  have hword : (m' ((c.tc : Thread Cert.ReferenceIdeal.nD Cert.ReferenceIdeal.τ).loc Cert.ReferenceIdeal.main_arg2) : IVec Cert.ReferenceIdeal.S4096 32) (ix1 r)
      = BitVec.ofNat 32 (Cert.KernelIdeal.Gen.ex8 (Cert.KernelIdeal.Gen.keyOf m c r)).val := by
    refine (congrFun e2 (ix1 r)).trans ?_
    show _ = BitVec.ofNat 32 (Cert.KernelIdeal.Gen.keyOf m c r % 8)
    rw [Nat.mod_eq_of_lt hlt]
    have hw : ∀ x : BitVec 32, x = BitVec.ofNat 32 x.toNat := fun x => by simp
    exact hw _
  refine (Cert.ReferenceIdeal.Value.result_at m' c r _ hword).trans ?_
  rw [e0, e1, e3, e4, e5, e6]
  exact (Cert.Grouped.scores_agree _ _ _ _ _ _ (fun k => h0 (ix2 r k)) (fun k => h1 (ix2 r k)) (fun i k => h3 (ix3 _ i k)) (fun i => h4 (ix2 _ i))
    (fun i k => h5 (ix3 0 i k))).symm

/-- Over the extended reals, the kernel and the reference end with the same result. -/
theorem equal_results : Cert.algebraic_KernelIdeal_ReferenceIdeal_pre_routed_and_finite (hPre_routed_and_finite := Cert.Pre_routed_and_finite.facts) :=
  fun m g m' g' h e => ⟨Cert.KernelIdeal.Gen.scores m, Cert.KernelIdeal.Gen.run_scores m g (expert_small m h),
    (θ_run Cert.ReferenceIdeal.defs _ _).mono (fun r hr c => ⟨(hr c).1.trans (results_agree m m' h c (e c)), (hr c).2⟩) (Cert.ReferenceIdeal.Value.run (F := Ideal) m' g')⟩

/-- Everything claimed. -/
theorem claim : Cert.Claim := ⟨Cert.Kernel.Gen.facts, Cert.KernelIdeal.Gen.facts, Cert.ReferenceIdeal.Gen.facts, Cert.Pre_routed_and_finite.facts,
  frame_kernel, frame_ideal, fun m ρ _ => Cert.KernelIdeal.Gen.frame m ρ, frame_reference, fun m ρ _ => frame_reference m ρ trivial, trivial, equal_results⟩

end Cert.Proof

end
